-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S8x64x2048x12 : Shape := ⟨4, ![8, 64, 2048, 12]⟩
abbrev S_ : Shape := ⟨0, ![]⟩
abbrev S8x64x2048 : Shape := ⟨3, ![8, 64, 2048]⟩
abbrev S8x2048x2048 : Shape := ⟨3, ![8, 2048, 2048]⟩
abbrev S8x2048 : Shape := ⟨2, ![8, 2048]⟩
abbrev S8x2048x1 : Shape := ⟨3, ![8, 2048, 1]⟩
abbrev S8x2048x1639 : Shape := ⟨3, ![8, 2048, 1639]⟩
abbrev S8x2x1024 : Shape := ⟨3, ![8, 2, 1024]⟩
abbrev S8x2 : Shape := ⟨2, ![8, 2]⟩

class Facts : Prop where
  reducesTo_S8x64x2048x12_S8x64x2048_d3 : S8x64x2048x12.ReducesTo [3] S8x64x2048
  h_S_ : 0 < S_.numel
  bcast_S_S8x2048x2048 : S_.BroadcastsInDim S8x2048x2048 (![] : Fin 0 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  natLt_1_32 : 1 < 32
  sliceFits_S8x2048x2048_S8x2048x1639 : S8x2048x2048.Slices (fun _ => 0) S8x2048x1639
  slices_S8x2048x1639_S8x2048x1_0_0_1637 : S8x2048x1639.Slices ![0, 0, 1637] S8x2048x1
  shapeCasts_S8x2048x1_S8x2048 : S8x2048x1.ShapeCasts S8x2048
  slices_S8x2048x1639_S8x2048x1_0_0_1638 : S8x2048x1639.Slices ![0, 0, 1638] S8x2048x1
  shapeCasts_S8x2048_S8x2x1024 : S8x2048.ShapeCasts S8x2x1024
  reducesTo_S8x2x1024_S8x2_d2 : S8x2x1024.ReducesTo [2] S8x2
  dot_S8x64x2048_S8x64x2048_S8x2048x2048_1_1_2_2_0_0_wf : DotDims.WF S8x64x2048 S8x64x2048 S8x2048x2048 [1] [1] [2] [2] [0] [0]

variable [Facts]

def dot_S8x64x2048_S8x64x2048_S8x2048x2048_1_1_2_2_0_0 : DotDims S8x64x2048 S8x64x2048 S8x2048x2048 where
  lhsContracting := [1]
  rhsContracting := [1]
  lhsNonContracting := [2]
  rhsNonContracting := [2]
  lhsBatch := [0]
  rhsBatch := [0]
  wf := dot_S8x64x2048_S8x64x2048_S8x2048x2048_1_1_2_2_0_0_wf
def fn_relu {F : FTy → Type} [FloatOps F] (arg0 : FVec F S8x2048x2048 .f32) : FVec F S8x2048x2048 .f32 :=
  let cst : FVec F S_ .f32 := constant S_ .f32 0x00000000#32
  let v0 : FVec F S8x2048x2048 .f32 := broadcastInDim S8x2048x2048 ![] bcast_S_S8x2048x2048 cst
  let v1 : FVec F S8x2048x2048 .f32 := maximumf arg0 v0
  v1

def fn_part2 {F : FTy → Type} [FloatOps F] (main_v34 : IVec S8x2048 1) (main_values : FVec F S8x2048x1639 .f32) : IVec S8x2 1 :=
  let main_v35 : FVec F S8x2048x1 .f32 := (extractStridedSlice S8x2048x1 ![0, 0, 1637] · slices_S8x2048x1639_S8x2048x1_0_0_1637) main_values
  let main_v36 : FVec F S8x2048 .f32 := shapeCast S8x2048 main_v35 shapeCasts_S8x2048x1_S8x2048
  let main_v37 : FVec F S8x2048x1 .f32 := (extractStridedSlice S8x2048x1 ![0, 0, 1638] · slices_S8x2048x1639_S8x2048x1_0_0_1638) main_values
  let main_v38 : FVec F S8x2048 .f32 := shapeCast S8x2048 main_v37 shapeCasts_S8x2048x1_S8x2048
  let main_cst_9 : FVec F S_ .f32 := constant S_ .f32 0x3F800001#32
  let main_v39 : FVec F S8x2048 .f32 := broadcastInDim S8x2048 ![] bcast_S_S8x2048 main_cst_9
  let main_v40 : FVec F S8x2048 .f32 := mulf main_v38 main_v39
  let main_v41 : IVec S8x2048 1 := cmpf .ogt main_v36 main_v40
  let main_v42 : IVec S8x2x1024 1 := shapeCast S8x2x1024 main_v34 shapeCasts_S8x2048_S8x2x1024
  let main_c_10 : IVec S_ 1 := constantI S_ 1 1#1
  let main_v43 : IVec S8x2 1 := (fun x v => Host.reduce IntOp.andi x v reducesTo_S8x2x1024_S8x2_d2 h_S_) main_v42 main_c_10
  let main_v44 : IVec S8x2x1024 1 := shapeCast S8x2x1024 main_v41 shapeCasts_S8x2048_S8x2x1024
  let main_c_11 : IVec S_ 1 := constantI S_ 1 1#1
  let main_v45 : IVec S8x2 1 := (fun x v => Host.reduce IntOp.andi x v reducesTo_S8x2x1024_S8x2_d2 h_S_) main_v44 main_c_11
  let main_v46 : IVec S8x2 1 := ori main_v43 main_v45
  main_v46

def fn_part1 {F : FTy → Type} [FloatOps F] (main_v15 : FVec F S8x2048x2048 .f32) (main_v16 : FVec F S8x2048 .f32) (main_cst_5 : FVec F S_ .f32) : IVec S8x2 1 :=
  let main_v17 : FVec F S8x2048 .f32 := broadcastInDim S8x2048 ![] bcast_S_S8x2048 main_cst_5
  let main_v18 : FVec F S8x2048 .f32 := maximumf main_v17 main_v16
  let main_v19 : FVec F S8x2048x1 .f32 := broadcastInDim S8x2048x1 ![0, 1] bcast_S8x2048_S8x2048x1_0_1 main_v18
  let main_v20 : FVec F S8x2048x2048 .f32 := broadcastInDim S8x2048x2048 ![0, 1, 2] bcast_S8x2048x1_S8x2048x2048_0_1_2 main_v19
  let main_v21 : FVec F S8x2048x2048 .f32 := subf main_v15 main_v20
  let main_v22 : FVec F S8x2048x2048 .f32 := Host.exp main_v21
  let main_cst_6 : FVec F S_ .f32 := constant S_ .f32 0x00000000#32
  let main_v23 : FVec F S8x2048 .f32 := (fun x v => Host.reduceAdd x v reducesTo_S8x2048x2048_S8x2048_d2 h_S_) main_v22 main_cst_6
  let main_v24 : FVec F S8x2048x1 .f32 := broadcastInDim S8x2048x1 ![0, 1] bcast_S8x2048_S8x2048x1_0_1 main_v23
  let main_v25 : FVec F S8x2048x2048 .f32 := broadcastInDim S8x2048x2048 ![0, 1, 2] bcast_S8x2048x1_S8x2048x2048_0_1_2 main_v24
  let main_v26 : FVec F S8x2048x2048 .f32 := Host.divf main_v22 main_v25
  let main_cst_7 : FVec F S_ .f32 := constant S_ .f32 0x7F800000#32
  let main_v27 : FVec F S8x2048 .f32 := (fun x v => Host.reduce FloatOps.minimumf x v reducesTo_S8x2048x2048_S8x2048_d2 h_S_) main_v26 main_cst_7
  let main_v28 : FVec F S8x2048x1 .f32 := broadcastInDim S8x2048x1 ![0, 1] bcast_S8x2048_S8x2048x1_0_1 main_v27
  let main_v29 : FVec F S8x2048x2048 .f32 := broadcastInDim S8x2048x2048 ![0, 1, 2] bcast_S8x2048x1_S8x2048x2048_0_1_2 main_v28
  let main_v30 : IVec S8x2048x2048 1 := cmpf .ogt main_v26 main_v29
  let main_v31 : IVec S8x2048x2048 32 := (extui 32 · natLt_1_32) main_v30
  let main_c : IVec S_ 32 := constantI S_ 32 0#32
  let main_v32 : IVec S8x2048 32 := (fun x v => Host.reduce IntOp.addi x v reducesTo_S8x2048x2048_S8x2048_d2 h_S_) main_v31 main_c
  let main_c_8 : IVec S_ 32 := constantI S_ 32 1638#32
  let main_v33 : IVec S8x2048 32 := broadcastInDim S8x2048 ![] bcast_S_S8x2048 main_c_8
  let main_v34 : IVec S8x2048 1 := cmpi .slt main_v32 main_v33
  let main_values : FVec F S8x2048x1639 .f32 := (fun x => (Host.topK S8x2048x1639 2 (FloatOps.cmpfTotal .gt) x sliceFits_S8x2048x2048_S8x2048x1639).1) main_v26
  let main_indices : IVec S8x2048x1639 32 := (fun x => (Host.topK S8x2048x1639 2 (FloatOps.cmpfTotal .gt) x sliceFits_S8x2048x2048_S8x2048x1639).2) main_v26
  fn_part2 (F := F) main_v34 main_values

def fn {F : FTy → Type} [FloatOps F] (main_arg0 : FVec F S8x64x2048x12 .f32) : IVec S8x2 1 :=
  let main_cst : FVec F S_ .f32 := constant S_ .f32 0x00000000#32
  let main_v0 : FVec F S8x64x2048 .f32 := (fun x v => Host.reduceAdd x v reducesTo_S8x64x2048x12_S8x64x2048_d3 h_S_) main_arg0 main_cst
  let main_v1 : FVec F S8x2048x2048 .f32 := (fun l r => Host.dotGeneral dot_S8x64x2048_S8x64x2048_S8x2048x2048_1_1_2_2_0_0 none l r) main_v0 main_v0
  let main_cst_0 : FVec F S_ .f32 := constant S_ .f32 0x41000000#32
  let main_v2 : FVec F S8x2048x2048 .f32 := broadcastInDim S8x2048x2048 ![] bcast_S_S8x2048x2048 main_cst_0
  let main_v3 : FVec F S8x2048x2048 .f32 := Host.divf main_v1 main_v2
  let main_v4 : FVec F S8x2048x2048 .f32 := fn_relu (F := F) main_v3
  let main_cst_1 : FVec F S_ .f32 := constant S_ .f32 0xFF800000#32
  let main_v5 : FVec F S8x2048 .f32 := (fun x v => Host.reduce FloatOps.maximumf x v reducesTo_S8x2048x2048_S8x2048_d2 h_S_) main_v4 main_cst_1
  let main_cst_2 : FVec F S_ .f32 := constant S_ .f32 0xFF800000#32
  let main_v6 : FVec F S8x2048 .f32 := broadcastInDim S8x2048 ![] bcast_S_S8x2048 main_cst_2
  let main_v7 : FVec F S8x2048 .f32 := maximumf main_v6 main_v5
  let main_v8 : FVec F S8x2048x1 .f32 := broadcastInDim S8x2048x1 ![0, 1] bcast_S8x2048_S8x2048x1_0_1 main_v7
  let main_v9 : FVec F S8x2048x2048 .f32 := broadcastInDim S8x2048x2048 ![0, 1, 2] bcast_S8x2048x1_S8x2048x2048_0_1_2 main_v8
  let main_v10 : FVec F S8x2048x2048 .f32 := subf main_v4 main_v9
  let main_v11 : FVec F S8x2048x2048 .f32 := Host.exp main_v10
  let main_cst_3 : FVec F S_ .f32 := constant S_ .f32 0x00000000#32
  let main_v12 : FVec F S8x2048 .f32 := (fun x v => Host.reduceAdd x v reducesTo_S8x2048x2048_S8x2048_d2 h_S_) main_v11 main_cst_3
  let main_v13 : FVec F S8x2048x1 .f32 := broadcastInDim S8x2048x1 ![0, 1] bcast_S8x2048_S8x2048x1_0_1 main_v12
  let main_v14 : FVec F S8x2048x2048 .f32 := broadcastInDim S8x2048x2048 ![0, 1, 2] bcast_S8x2048x1_S8x2048x2048_0_1_2 main_v13
  let main_v15 : FVec F S8x2048x2048 .f32 := Host.divf main_v11 main_v14
  let main_cst_4 : FVec F S_ .f32 := constant S_ .f32 0xFF800000#32
  let main_v16 : FVec F S8x2048 .f32 := (fun x v => Host.reduce FloatOps.maximumf x v reducesTo_S8x2048x2048_S8x2048_d2 h_S_) main_v15 main_cst_4
  let main_cst_5 : FVec F S_ .f32 := constant S_ .f32 0xFF800000#32
  fn_part1 (F := F) main_v15 main_v16 main_cst_5
-- ==== Kernel.lean ====
abbrev S8x64x2048x12 : Shape := ⟨4, ![8, 64, 2048, 12]⟩
abbrev S8x12x64x2048 : Shape := ⟨4, ![8, 12, 64, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x2048x2048 : Shape := ⟨3, ![8, 2048, 2048]⟩
abbrev S1x12x64x2048 : Shape := ⟨4, ![1, 12, 64, 2048]⟩
abbrev S1x1024x2048 : Shape := ⟨3, ![1, 1024, 2048]⟩
abbrev S64x2048 : Shape := ⟨2, ![64, 2048]⟩
abbrev S12x64x2048 : Shape := ⟨3, ![12, 64, 2048]⟩
abbrev S64x1024 : Shape := ⟨2, ![64, 1024]⟩
abbrev S1024x2048 : Shape := ⟨2, ![1024, 2048]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 11
  | .vmem => 7
  | .smem => 0
  | _ => 0

abbrev bufTy : (tb : Table) → Fin (tcTables nBuf tb) → BufTy
  | .hbm, ⟨0, _⟩ => ⟨S8x64x2048x12, .f32⟩
  | .hbm, ⟨1, _⟩ => ⟨S8x12x64x2048, .f32⟩
  | .hbm, ⟨2, _⟩ => ⟨S2048, .i32⟩
  | .hbm, ⟨3, _⟩ => ⟨S2048x1, .i32⟩
  | .hbm, ⟨4, _⟩ => ⟨S2048, .i32⟩
  | .hbm, ⟨5, _⟩ => ⟨S1x2048, .i32⟩
  | .hbm, ⟨6, _⟩ => ⟨S2048x2048, .i32⟩
  | .hbm, ⟨7, _⟩ => ⟨S2048x2048, .i32⟩
  | .hbm, ⟨8, _⟩ => ⟨S2048x2048, .i1⟩
  | .hbm, ⟨9, _⟩ => ⟨S2048x2048, .bf16⟩
  | .hbm, ⟨10, _⟩ => ⟨S8x2048x2048, .f32⟩
  | .local _ .vmem, ⟨0, _⟩ => ⟨S1x12x64x2048, .f32⟩
  | .local _ .vmem, ⟨1, _⟩ => ⟨S1x12x64x2048, .f32⟩
  | .local _ .vmem, ⟨2, _⟩ => ⟨S2048x2048, .bf16⟩
  | .local _ .vmem, ⟨3, _⟩ => ⟨S1x1024x2048, .f32⟩
  | .local _ .vmem, ⟨4, _⟩ => ⟨S1x1024x2048, .f32⟩
  | .local _ .vmem, ⟨5, _⟩ => ⟨S64x2048, .f32⟩
  | .local _ .vmem, ⟨6, _⟩ => ⟨S64x2048, .f32⟩
  | _, _ => ⟨S8x64x2048x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : Index := Scalar.indexCast v3
  ![0, v4.toNat]
@[reducible] def k0_t1_loop : Scf.Loop 32 :=
  let c0_i32_24 : BitVec 32 := 0#32
  let c30_i32 : BitVec 32 := 30#32
  let v72 : BitVec 32 := Scalar.addi c0_i32_24 c30_i32
  let c1_i32 : BitVec 32 := 1#32
  ⟨c0_i32_24, v72, c1_i32⟩
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x12x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x64x2048x12 : Shape := ⟨4, ![8, 64, 2048, 12]⟩
abbrev S_ : Shape := ⟨0, ![]⟩
abbrev S8x64x2048 : Shape := ⟨3, ![8, 64, 2048]⟩
abbrev S8x2048x2048 : Shape := ⟨3, ![8, 2048, 2048]⟩
abbrev S8x2048 : Shape := ⟨2, ![8, 2048]⟩
abbrev S8x2048x1 : Shape := ⟨3, ![8, 2048, 1]⟩
abbrev S8x2048x1638 : Shape := ⟨3, ![8, 2048, 1638]⟩
abbrev S8 : Shape := ⟨1, ![8]⟩
abbrev S8x1x1 : Shape := ⟨3, ![8, 1, 1]⟩
abbrev S2048 : Shape := ⟨1, ![2048]⟩
abbrev S1x2048x1 : Shape := ⟨3, ![1, 2048, 1]⟩
abbrev S8x2048x1638x1 : Shape := ⟨4, ![8, 2048, 1638, 1]⟩
abbrev S8x2048x1638x3 : Shape := ⟨4, ![8, 2048, 1638, 3]⟩

abbrev nBuf : Space → Nat
  | .hbm => 77
  | .vmem => 0
  | .smem => 0
  | _ => 0

abbrev bufTy : (tb : Table) → Fin (tcTables nBuf tb) → BufTy
  | .hbm, ⟨0, _⟩ => ⟨S8x64x2048x12, .f32⟩
  | .hbm, ⟨1, _⟩ => ⟨S_, .f32⟩
  | .hbm, ⟨2, _⟩ => ⟨S8x64x2048, .f32⟩
  | .hbm, ⟨3, _⟩ => ⟨S8x2048x2048, .f32⟩
  | .hbm, ⟨4, _⟩ => ⟨S_, .f32⟩
  | .hbm, ⟨5, _⟩ => ⟨S8x2048x2048, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x1638, .f32⟩
  | .hbm, ⟨39, _⟩ => ⟨S8x2048x1638, .i32⟩
  | .hbm, ⟨40, _⟩ => ⟨S8, .i32⟩
  | .hbm, ⟨41, _⟩ => ⟨S8x1x1, .i32⟩
  | .hbm, ⟨42, _⟩ => ⟨S2048, .i32⟩
  | .hbm, ⟨43, _⟩ => ⟨S1x2048x1, .i32⟩
  | .hbm, ⟨44, _⟩ => ⟨S_, .f32⟩
  | .hbm, ⟨45, _⟩ => ⟨S8x2048x2048, .f32⟩
  | .hbm, ⟨46, _⟩ => ⟨S_, .i32⟩
  | .hbm, ⟨47, _⟩ => ⟨S8x1x1, .i32⟩
  | .hbm, ⟨48, _⟩ => ⟨S8x1x1, .i1⟩
  | .hbm, ⟨49, _⟩ => ⟨S_, .i32⟩
  | .hbm, ⟨50, _⟩ => ⟨S8x1x1, .i32⟩
  | .hbm, ⟨51, _⟩ => ⟨S8x1x1, .i32⟩
  | .hbm, ⟨52, _⟩ => ⟨S8x1x1, .i32⟩
  | .hbm, ⟨53, _⟩ => ⟨S_, .i32⟩
  | .hbm, ⟨54, _⟩ => ⟨S1x2048x1, .i32⟩
  | .hbm, ⟨55, _⟩ => ⟨S1x2048x1, .i1⟩
  | .hbm, ⟨56, _⟩ => ⟨S_, .i32⟩
  | .hbm, ⟨57, _⟩ => ⟨S1x2048x1, .i32⟩
  | .hbm, ⟨58, _⟩ => ⟨S1x2048x1, .i32⟩
  | .hbm, ⟨59, _⟩ => ⟨S1x2048x1, .i32⟩
  | .hbm, ⟨60, _⟩ => ⟨S_, .i32⟩
  | .hbm, ⟨61, _⟩ => ⟨S8x2048x1638, .i32⟩
  | .hbm, ⟨62, _⟩ => ⟨S8x2048x1638, .i1⟩
  | .hbm, ⟨63, _⟩ => ⟨S_, .i32⟩
  | .hbm, ⟨64, _⟩ => ⟨S8x2048x1638, .i32⟩
  | .hbm, ⟨65, _⟩ => ⟨S8x2048x1638, .i32⟩
  | .hbm, ⟨66, _⟩ => ⟨S8x2048x1638, .i32⟩
  | .hbm, ⟨67, _⟩ => ⟨S8x2048x1638, .i32⟩
  | .hbm, ⟨68, _⟩ => ⟨S8x2048x1638, .i32⟩
  | .hbm, ⟨69, _⟩ => ⟨S8x2048x1638x1, .i32⟩
  | .hbm, ⟨70, _⟩ => ⟨S8x2048x1638x1, .i32⟩
  | .hbm, ⟨71, _⟩ => ⟨S8x2048x1638x1, .i32⟩
  | .hbm, ⟨72, _⟩ => ⟨S8x2048x1638x3, .i32⟩
  | .hbm, ⟨73, _⟩ => ⟨S_, .f32⟩
  | .hbm, ⟨74, _⟩ => ⟨S8x2048x1638, .f32⟩
  | .hbm, ⟨75, _⟩ => ⟨S8x2048x2048, .f32⟩
  | .hbm, ⟨76, _⟩ => ⟨S8x2048x2048, .f32⟩
  | _, _ => ⟨S8x64x2048x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_values : Ref sig .tc := ⟨.hbm, 38, rfl⟩
abbrev main_indices : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_c : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_c_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_11 : Ref sig .tc := ⟨.hbm, 60, rfl⟩
abbrev main_v42 : Ref sig .tc := ⟨.hbm, 61, rfl⟩
abbrev main_v43 : Ref sig .tc := ⟨.hbm, 62, rfl⟩
abbrev main_c_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Proof.Body.lean ====
/- The body of the kernel, run once at any value instance: what it leaves in the output block and in the two
   scratch buffers, at the first and at the second grid point of a batch. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Value

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## What one point computes -/

/-- The word that decides the branch: whether some row of the block has at least `k` weights above its least one. -/
def slow (xl : FVec F S64x1024 .f32) (xs : FVec F S64x2048 .f32) : BitVec 1 :=
  Scalar.cmpi .ne (Scalar.extui (Scalar.cmpf .ogt (k0_pay1 (k0_pay16 xl xs)) (FloatOps.ofBits .f32 0x00000000#32 : F .f32)) : BitVec 32) 0#32

/-- The two words of the search, after its thirty trips. -/
def searched (w : FVec F S1024x2048 .f32) : IVec S1024x1 32 × IVec S1024x1 32 :=
  Scf.fold (fun (_ : Fin k0_t1_loop.trips) (p : IVec S1024x1 32 × IVec S1024x1 32) => (k0_pay6 w p.1 p.2, k0_pay7 w p.1 p.2)) (k0_pay2, k0_pay3)

/-- The threshold of each row and how many of its weights lie above it, as the branch leaves them. -/
def picked (xl : FVec F S64x1024 .f32) (xs : FVec F S64x2048 .f32) : FVec F S1024x1 .f32 × IVec S1024x1 32 :=
  if slow xl xs = 1#1 then
    (k0_pay8 (F := F) (searched (k0_pay13 xl xs)).1, k0_pay9 (k0_pay13 xl xs) (searched (k0_pay13 xl xs)).1)
  else (k0_pay14 xl xs, k0_pay15 xl xs)

/-- The columns of the summed features that point `i` takes as its rows. -/
def rowsAt (i : grid0.Coords) (a : Vec F S64x2048 .f32) : Vec F S64x1024 .f32 :=
  View.ld a (Rect.unit (s := S64x2048) (k0_off1 i) S64x1024.size (k0_off1_inb i))

/-- What point `i` stores in the output block, from the two scratch buffers and the triangle of ones. -/
def blockOut (i : grid0.Coords) (a b : Vec F S64x2048 .f32) (u : Vec F S2048x2048 .bf16) : Vec F S1x1024x2048 .f32 :=
  k0_pay10 (k0_pay13 (rowsAt i a) b) (picked (rowsAt i a) b).1 (picked (rowsAt i a) b).2 u

/-- The first scratch buffer, whole. -/
abbrev scA : Memref sig .tc .vmem S64x2048 .f32 := Memref.whole cc0_scratch0
/-- The second scratch buffer, whole. -/
abbrev scB : Memref sig .tc .vmem S64x2048 .f32 := Memref.whole cc0_scratch1

/-- The offset with two zeros is zero on each axis. -/
theorem off2 : (![0, 0] : Fin 2 → Nat) = fun _ => 0 := by funext a; fin_cases a <;> rfl
/-- The offset with three zeros is zero on each axis. -/
theorem off3 : (![0, 0, 0] : Fin 3 → Nat) = fun _ => 0 := by funext a; fin_cases a <;> rfl
/-- The offset with four zeros is zero on each axis. -/
theorem off4 : (![0, 0, 0, 0] : Fin 4 → Nat) = fun _ => 0 := by funext a; fin_cases a <;> rfl

/-- One whole-block store reads back as its payload. -/
theorem read_one {sg : RefSig} {κ : Kind} {sp : Space} (v : View sg κ sp S1x1024x2048 .f32) (f : v.ty.Contents (Elt F))
    (inb : ∀ a, (![0, 0, 0] : Fin 3 → Nat) a + S1x1024x2048.size a ≤ S1x1024x2048.size a) (w : Vec F S1x1024x2048 .f32) :
    View.read (Elt F) v (v.writes (Elt F) f [(⟨Rect.unit (s := S1x1024x2048) ![0, 0, 0] S1x1024x2048.size inb, w⟩ : View.Piece (Elt F) S1x1024x2048 .f32)]) = w :=
  (View.read_writes_eq_canon _ _ _ (fun y => ⟨_, List.mem_singleton_self _, View.mem_set_unit_zero off3 inb y⟩)).trans
    (View.canon_unit_zero off3 inb w)

/-- One whole store into a scratch buffer reads back as its payload. -/
theorem read_one2 {sg : RefSig} {κ : Kind} {sp : Space} (v : View sg κ sp S64x2048 .f32) (f : v.ty.Contents (Elt F))
    (inb : ∀ a, (![0, 0] : Fin 2 → Nat) a + S64x2048.size a ≤ S64x2048.size a) (w : Vec F S64x2048 .f32) :
    View.read (Elt F) v (v.writes (Elt F) f [(⟨Rect.unit (s := S64x2048) ![0, 0] S64x2048.size inb, w⟩ : View.Piece (Elt F) S64x2048 .f32)]) = w :=
  (View.read_writes_eq_canon _ _ _ (fun y => ⟨_, List.mem_singleton_self _, View.mem_set_unit_zero off2 inb y⟩)).trans
    (View.canon_unit_zero off2 inb w)

/-- The body at the second point of a batch: it reads the scratch as the first point left it. -/
theorem kernel_odd (c : Dev nD) (i : grid0.Coords) (hi : (i 1).val ≠ 0)
    (arg2 : Memref sig .tc .vmem S1x12x64x2048 .f32) (harg2 : arg2.IsWhole) (arg3 : Memref sig .tc .vmem S2048x2048 .bf16) (harg3 : arg3.IsWhole)
    (arg4 : Memref sig .tc .vmem S1x1024x2048 .f32) (harg4 : arg4.IsWhole)
    (x : Vec F S1x12x64x2048 .f32) (u : Vec F S2048x2048 .bf16) (a b : Vec F S64x2048 .f32) (K : PUnit → sProp 𝕄) :
    iprop(owns (c : Thread nD τ) arg2 fullShare x ∗ owns (c : Thread nD τ) arg3 fullShare u ∗ (∃ d, owns (c : Thread nD τ) arg4 fullShare d)
        ∗ owns (c : Thread nD τ) scA fullShare a ∗ owns (c : Thread nD τ) scB fullShare b
        ∗ (iprop(owns (c : Thread nD τ) arg2 fullShare x ∗ owns (c : Thread nD τ) arg3 fullShare u ∗ owns (c : Thread nD τ) arg4 fullShare (blockOut i a b u)
            ∗ owns (c : Thread nD τ) scA fullShare a ∗ owns (c : Thread nD τ) scB fullShare b) -∗ K ⟨⟩))
      ⊢ wp frame (wpE (defs₀ (F := F)) Variants.none c none) Set.univ
          (cc0__body i arg2 harg2 arg3 harg3 arg4 harg4 scA (Memref.isWhole_whole _) scB (Memref.isWhole_whole _)) K := by
  simp only [cc0__body_eq_skeleton]; unfold cc0__body_skel
  simp only [k0_part1_eq_skeleton]; unfold k0_part1_skel
  have hj : ¬ Scalar.cmpi .ne (Scalar.extui (Scalar.cmpi .eq (BitVec.ofNat 32 (i 1).val) 0#32 : BitVec 1) : BitVec 32) 0#32 = 1#1 := by
    have h2 : (i 1).val < 2 := (i 1).isLt
    have h1 : (i 1).val = 1 := by omega
    rw [h1]; decide
  unfold owns
  iintro ⟨⟨%f2, %hf2, H2⟩, ⟨%f3, %hf3, H3⟩, ⟨%d4, %f4, -, H4⟩, ⟨%f5, %hf5, H5⟩, ⟨%f6, %hf6, H6⟩, Hk⟩
  subst hf2 hf3 hf5 hf6
  by_cases hC : slow (View.readAt (Elt F) scA.view (Rect.unit (s := S64x2048) (k0_off1 i) S64x1024.size (k0_off1_inb i)).toLoadRect f5)
      (View.readAt (Elt F) scB.view (Rect.unit (s := S64x2048) ![0, 0] S64x2048.size inb_S64x2048_S64x2048_0_0).toLoadRect f6) = 1#1
  · have hC' := hC
    unfold slow at hC'
    sl_exec!
    sl_step
    iapply Hk
    isplitl [H2]
    · iexists f2; isplitr; · ipureintro; rfl
      iexact H2
    isplitl [H3]
    · iexists f3; isplitr; · ipureintro; rfl
      iexact H3
    isplitl [H4]
    · iexists _; isplitr; swap; · iexact H4
      ipureintro
      delta kernel_odd.sl.H4_1
      refine (read_one _ _ _ _).trans ?_
      have ea : View.readAt (Elt F) scA.view (Rect.unit (s := S64x2048) (k0_off1 i) S64x1024.size (k0_off1_inb i)).toLoadRect f5 = rowsAt i (View.read (Elt F) scA.view f5) := rfl
      have eb : View.readAt (Elt F) scB.view (Rect.unit (s := S64x2048) ![0, 0] S64x2048.size inb_S64x2048_S64x2048_0_0).toLoadRect f6 = View.read (Elt F) scB.view f6 := View.ld_unit_zero off2 _ _
      have eu : View.readAt (Elt F) arg3.view (Rect.unit (s := S2048x2048) ![0, 0] S2048x2048.size inb_S2048x2048_S2048x2048_0_0).toLoadRect f3 = View.read (Elt F) arg3.view f3 := View.ld_unit_zero off2 _ _
      rw [ea, eb] at hC
      dsimp only
      rw [ea, eb, eu]
      unfold blockOut picked
      have er : kernel_odd.sl.r c i f5 f6 = searched (k0_pay13 (rowsAt i (View.read (Elt F) scA.view f5)) (View.read (Elt F) scB.view f6)) := by
        delta kernel_odd.sl.r
        dsimp only
        rw [ea, eb]
        rfl
      rw [if_pos hC, er]
    isplitl [H5]
    · iexists f5; isplitr; · ipureintro; rfl
      iexact H5
    iexists f6; isplitr; · ipureintro; rfl
    iexact H6
  · have hC' := hC
    unfold slow at hC'
    sl_exec!
    sl_step
    iapply Hk
    isplitl [H2]
    · iexists f2; isplitr; · ipureintro; rfl
      iexact H2
    isplitl [H3]
    · iexists f3; isplitr; · ipureintro; rfl
      iexact H3
    isplitl [H4]
    · iexists _; isplitr; swap; · iexact H4
      ipureintro
      delta kernel_odd.sl.H4_1_1
      refine (read_one _ _ _ _).trans ?_
      have ea : View.readAt (Elt F) scA.view (Rect.unit (s := S64x2048) (k0_off1 i) S64x1024.size (k0_off1_inb i)).toLoadRect f5 = rowsAt i (View.read (Elt F) scA.view f5) := rfl
      have eb : View.readAt (Elt F) scB.view (Rect.unit (s := S64x2048) ![0, 0] S64x2048.size inb_S64x2048_S64x2048_0_0).toLoadRect f6 = View.read (Elt F) scB.view f6 := View.ld_unit_zero off2 _ _
      have eu : View.readAt (Elt F) arg3.view (Rect.unit (s := S2048x2048) ![0, 0] S2048x2048.size inb_S2048x2048_S2048x2048_0_0).toLoadRect f3 = View.read (Elt F) arg3.view f3 := View.ld_unit_zero off2 _ _
      rw [ea, eb] at hC
      dsimp only
      rw [ea, eb, eu]
      unfold blockOut picked
      rw [if_neg hC]
    isplitl [H5]
    · iexists f5; isplitr; · ipureintro; rfl
      iexact H5
    iexists f6; isplitr; · ipureintro; rfl
    iexact H6

/-- The body at the first point of a batch: it sums the features of the batch into the scratch, then reads them. -/
theorem kernel_even (c : Dev nD) (i : grid0.Coords) (hi : (i 1).val = 0)
    (arg2 : Memref sig .tc .vmem S1x12x64x2048 .f32) (harg2 : arg2.IsWhole) (arg3 : Memref sig .tc .vmem S2048x2048 .bf16) (harg3 : arg3.IsWhole)
    (arg4 : Memref sig .tc .vmem S1x1024x2048 .f32) (harg4 : arg4.IsWhole)
    (x : Vec F S1x12x64x2048 .f32) (u : Vec F S2048x2048 .bf16) (K : PUnit → sProp 𝕄) :
    iprop(owns (c : Thread nD τ) arg2 fullShare x ∗ owns (c : Thread nD τ) arg3 fullShare u ∗ (∃ d, owns (c : Thread nD τ) arg4 fullShare d)
        ∗ (∃ d, owns (c : Thread nD τ) scA fullShare d) ∗ (∃ d, owns (c : Thread nD τ) scB fullShare d)
        ∗ (iprop(owns (c : Thread nD τ) arg2 fullShare x ∗ owns (c : Thread nD τ) arg3 fullShare u ∗ owns (c : Thread nD τ) arg4 fullShare (blockOut i (k0_pay11 x) (k0_pay12 (k0_pay11 x)) u)
            ∗ owns (c : Thread nD τ) scA fullShare (k0_pay11 x) ∗ owns (c : Thread nD τ) scB fullShare (k0_pay12 (k0_pay11 x))) -∗ K ⟨⟩))
      ⊢ wp frame (wpE (defs₀ (F := F)) Variants.none c none) Set.univ
          (cc0__body i arg2 harg2 arg3 harg3 arg4 harg4 scA (Memref.isWhole_whole _) scB (Memref.isWhole_whole _)) K := by
  simp only [cc0__body_eq_skeleton]; unfold cc0__body_skel
  simp only [k0_part1_eq_skeleton]; unfold k0_part1_skel
  have hj : Scalar.cmpi .ne (Scalar.extui (Scalar.cmpi .eq (BitVec.ofNat 32 (i 1).val) 0#32 : BitVec 1) : BitVec 32) 0#32 = 1#1 := by
    rw [hi]; decide
  unfold owns
  iintro ⟨⟨%f2, %hf2, H2⟩, ⟨%f3, %hf3, H3⟩, ⟨%d4, %f4, -, H4⟩, ⟨%d5, %f5, -, H5⟩, ⟨%d6, %f6, -, H6⟩, Hk⟩
  subst hf2 hf3
  sl_exec!
  have ex : View.readAt (Elt F) arg2.view (Rect.unit (s := S1x12x64x2048) ![0, 0, 0, 0] S1x12x64x2048.size inb_S1x12x64x2048_S1x12x64x2048_0_0_0_0).toLoadRect f2 = View.read (Elt F) arg2.view f2 := View.ld_unit_zero off4 _ _
  have h5 : View.read (Elt F) scA.view (scA.view.writes (Elt F) scA.view.junk (kernel_even.sl.H5_1 c arg2 f2)) = k0_pay11 (View.read (Elt F) arg2.view f2) := by
    delta kernel_even.sl.H5_1
    exact (read_one2 _ _ _ _).trans (congrArg k0_pay11 ex)
  have e76 : kernel_even.sl.v76 c arg2 f2 = k0_pay11 (View.read (Elt F) arg2.view f2) := by
    delta kernel_even.sl.v76
    exact (View.ld_unit_zero off2 _ _).trans h5
  have h6 : View.read (Elt F) scB.view (scB.view.writes (Elt F) scB.view.junk (kernel_even.sl.H6_1 c arg2 f2)) = k0_pay12 (k0_pay11 (View.read (Elt F) arg2.view f2)) := by
    delta kernel_even.sl.H6_1
    exact (read_one2 _ _ _ _).trans (congrArg k0_pay12 e76)
  have ea : View.readAt (Elt F) scA.view (Rect.unit (s := S64x2048) (k0_off1 i) S64x1024.size (k0_off1_inb i)).toLoadRect (scA.view.writes (Elt F) scA.view.junk (kernel_even.sl.H5_1 c arg2 f2)) = rowsAt i (k0_pay11 (View.read (Elt F) arg2.view f2)) := congrArg (rowsAt i) h5
  have eb : kernel_even.sl.v6 c arg2 f2 = k0_pay12 (k0_pay11 (View.read (Elt F) arg2.view f2)) := by
    delta kernel_even.sl.v6
    exact (View.ld_unit_zero off2 _ _).trans h6
  have eu : View.readAt (Elt F) arg3.view (Rect.unit (s := S2048x2048) ![0, 0] S2048x2048.size inb_S2048x2048_S2048x2048_0_0).toLoadRect f3 = View.read (Elt F) arg3.view f3 := View.ld_unit_zero off2 _ _
  by_cases hC : slow (View.readAt (Elt F) scA.view (Rect.unit (s := S64x2048) (k0_off1 i) S64x1024.size (k0_off1_inb i)).toLoadRect (scA.view.writes (Elt F) scA.view.junk (kernel_even.sl.H5_1 c arg2 f2)))
      (kernel_even.sl.v6 c arg2 f2) = 1#1
  · have hC' := hC
    unfold slow at hC'
    sl_exec!
    sl_step
    iapply Hk
    isplitl [H2]
    · iexists f2; isplitr; · ipureintro; rfl
      iexact H2
    isplitl [H3]
    · iexists f3; isplitr; · ipureintro; rfl
      iexact H3
    isplitl [H4]
    · iexists _; isplitr; swap; · iexact H4
      ipureintro
      delta kernel_even.sl.H4_1
      refine (read_one _ _ _ _).trans ?_
      rw [ea, eb] at hC
      dsimp only
      rw [ea, eb]
      unfold blockOut picked
      have er : kernel_even.sl.r c i arg2 f2 = searched (k0_pay13 (rowsAt i (k0_pay11 (View.read (Elt F) arg2.view f2))) (k0_pay12 (k0_pay11 (View.read (Elt F) arg2.view f2)))) := by
        delta kernel_even.sl.r
        dsimp only
        rw [ea, eb]
        rfl
      rw [if_pos hC, er]
    isplitl [H5]
    · iexists _; isplitr; swap; · iexact H5
      ipureintro; exact h5
    iexists _; isplitr; swap; · iexact H6
    ipureintro; exact h6
  · have hC' := hC
    unfold slow at hC'
    sl_exec!
    sl_step
    iapply Hk
    isplitl [H2]
    · iexists f2; isplitr; · ipureintro; rfl
      iexact H2
    isplitl [H3]
    · iexists f3; isplitr; · ipureintro; rfl
      iexact H3
    isplitl [H4]
    · iexists _; isplitr; swap; · iexact H4
      ipureintro
      delta kernel_even.sl.H4_1_1
      refine (read_one _ _ _ _).trans ?_
      rw [ea, eb] at hC
      dsimp only
      rw [ea, eb]
      unfold blockOut picked
      rw [if_neg hC]
    isplitl [H5]
    · iexists _; isplitr; swap; · iexact H5
      ipureintro; exact h5
    iexists _; isplitr; swap; · iexact H6
    ipureintro; exact h6

end Cert.Proof.Body

end
-- ==== Proof.Run.lean ====
/- The launch: every run of the program ends, the argument as it was, the result block by block as the body left
   it, every semaphore counter at zero. Stated at any value instance. -/
module

public import proofs.«01_k».proof.Proof.Body

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The first point of the batch that point `t` belongs to. -/
def first (t : Fin cfg0.N) : Fin cfg0.N := ⟨t.val - t.val % 2, lt_of_le_of_lt (Nat.sub_le _ _) t.isLt⟩

/-- The summed features the first point of point `t`'s batch leaves in the scratch. -/
def feats (c : Dev nD) (t : Fin cfg0.N) : Vec F S64x2048 .f32 := k0_pay11 (iblk m c 0 (first t))

/-- What point `t` leaves in the output window's buffer. -/
def outAt (c : Dev nD) (t : Fin cfg0.N) : Vec F S1x1024x2048 .f32 :=
  blockOut (grid0.coords t) (feats m c t) (k0_pay12 (feats m c t)) (iblk m c 1 t)

/-- Between points: before a batch's second point the scratch holds the batch's summed features and their eighth;
    before a first point, anything. -/
def inv (c : Dev nD) (p : Fin (cfg0.N + 1)) : sProp 𝕄 :=
  if h : p.val % 2 = 1 then
    iprop(owns (c : Thread nD τ) scA fullShare (k0_pay11 (iblk m c 0 ⟨p.val - 1, by have := p.isLt; omega⟩))
      ∗ owns (c : Thread nD τ) scB fullShare (k0_pay12 (k0_pay11 (iblk m c 0 ⟨p.val - 1, by have := p.isLt; omega⟩)))
      ∗ ∃ r, prngReg c r)
  else iprop((∃ d, owns (c : Thread nD τ) scA fullShare d) ∗ (∃ d, owns (c : Thread nD τ) scB fullShare d) ∗ ∃ r, prngReg c r)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ p := inv m c p
  q _ := fullShare
  owed _ := 0

/-- The arrays the pipeline starts from are those the host operations leave. -/
theorem A_eq (c : Dev nD) (w : Fin cfg0.W) : (dats m 0 c).A w = V m c (Pipeline.arrRef spec0 w) := by
  dsimp only [dats]

/-- The body leaves the first window's block as it was. -/
theorem after0_0 (c : Dev nD) (t : Fin cfg0.N) : (dats m 0 c).after 0 t = iblk m c 0 t := by dsimp only [dats]
/-- The body leaves the second window's block as it was. -/
theorem after0_1 (c : Dev nD) (t : Fin cfg0.N) : (dats m 0 c).after 1 t = iblk m c 1 t := by dsimp only [dats]
/-- The body leaves its stored block in the output window. -/
theorem after0_2 (c : Dev nD) (t : Fin cfg0.N) : (dats m 0 c).after 2 t = outAt m c t := by dsimp only [dats]
/-- The body finds the first window's block at the point. -/
theorem before0_0 (c : Dev nD) (t : Fin cfg0.N) (d) : (dats m 0 c).before 0 t d = iblk m c 0 t :=
  before0_0_of m (dats m 0 c) (A_eq m c 0) (after0_0 m c) t d
/-- The body finds the second window's block at the point. -/
theorem before0_1 (c : Dev nD) (t : Fin cfg0.N) (d) : (dats m 0 c).before 1 t d = iblk m c 1 t :=
  before0_1_of m (dats m 0 c) (A_eq m c 1) (after0_1 m c) t d

/-- The second grid coordinate is the parity of the point. -/
theorem coord1 : ∀ t : Fin grid0.N, ((grid0.coords t) 1).val = t.val % 2 := by decide

/-- Before a batch's second point the scratch holds the batch's summed features and their eighth. -/
theorem inv_odd (c : Dev nD) (p : Fin (cfg0.N + 1)) (q : Fin cfg0.N) (h : p.val % 2 = 1) (hq : q.val = p.val - 1) :
    inv m c p = iprop(owns (c : Thread nD τ) scA fullShare (k0_pay11 (iblk m c 0 q))
      ∗ owns (c : Thread nD τ) scB fullShare (k0_pay12 (k0_pay11 (iblk m c 0 q))) ∗ ∃ r, prngReg c r) := by
  obtain ⟨v, hv⟩ := q
  dsimp only at hq
  subst hq
  exact dif_pos h

/-- Before a batch's first point the scratch may hold anything. -/
theorem inv_even (c : Dev nD) (p : Fin (cfg0.N + 1)) (h : ¬ p.val % 2 = 1) :
    inv m c p = (iprop((∃ d, owns (c : Thread nD τ) scA fullShare d) ∗ (∃ d, owns (c : Thread nD τ) scB fullShare d) ∗ ∃ r, prngReg c r) : sProp 𝕄) :=
  dif_neg h

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body, called as stated at a point, ends without a fault and returns what is stated. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = inv m c t.succ from rfl, show (dats m 0 c).Φ t.castSucc = inv m c t.castSucc from rfl,
    show (dats m 0 c).owesAt () t.succ = (dats m 0 c).owesAt () t.castSucc from rfl, after0_0, after0_1, after0_2]
  by_cases h : t.val % 2 = 0
  · have hf : first t = t := Fin.ext (by show t.val - t.val % 2 = t.val; omega)
    rw [inv_even m c t.castSucc (by simp only [Fin.val_castSucc]; omega), inv_odd m c t.succ t (by simp only [Fin.val_succ]; omega) (by simp only [Fin.val_succ]; omega)]
    unfold outAt feats
    rw [hf]
    iintro ⟨⟨HA, HB, HR⟩, Ho, ⟨%d0, H0⟩, ⟨%d1, H1⟩, ⟨%d2, H2⟩⟩
    iapply (kernel_even c (grid0.coords t) ((coord1 t).trans h) _ _ _ _ _ _ (iblk m c 0 t) (iblk m c 1 t) _)
    isplitl [H0]; · iexact H0
    isplitl [H1]; · iexact H1
    isplitl [H2]; · iexists _; iexact H2
    isplitl [HA]; · iexact HA
    isplitl [HB]; · iexact HB
    iintro ⟨H0, H1, H2, HA, HB⟩
    isplitl [HA HB HR]
    · isplitl [HA]; · iexact HA
      isplitl [HB]; · iexact HB
      iexact HR
    isplitl [Ho]; · iexact Ho
    isplitl [H0]; · iexact H0
    isplitl [H1]; · iexact H1
    iexact H2
  · have h1 : t.val % 2 = 1 := by omega
    rw [inv_odd m c t.castSucc (first t) (by simp only [Fin.val_castSucc]; omega) (by show t.val - t.val % 2 = t.val - 1; omega),
      inv_even m c t.succ (by simp only [Fin.val_succ]; omega)]
    unfold outAt feats
    iintro ⟨⟨HA, HB, HR⟩, Ho, ⟨%d0, H0⟩, ⟨%d1, H1⟩, ⟨%d2, H2⟩⟩
    iapply (kernel_odd c (grid0.coords t) (by rw [coord1 t]; omega) _ _ _ _ _ _ (iblk m c 0 t) (iblk m c 1 t) _ _ _)
    isplitl [H0]; · iexact H0
    isplitl [H1]; · iexact H1
    isplitl [H2]; · iexists _; iexact H2
    isplitl [HA]; · iexact HA
    isplitl [HB]; · iexact HB
    iintro ⟨H0, H1, H2, HA, HB⟩
    isplitl [HA HB HR]
    · isplitl [HA]; · iexists _; iexact HA
      isplitl [HB]; · iexists _; iexact HB
      iexact HR
    isplitl [Ho]; · iexact Ho
    isplitl [H0]; · iexact H0
    isplitl [H1]; · iexact H1
    iexact H2

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the scratch and the generator register hold between points, without saying what. -/
theorem rest_eq (c : Dev nD) :
    (Pipeline.ΦA spec0 c : sProp 𝕄) = iprop(((∃ d, owns (c : Thread nD τ) scA fullShare d) ∗ (∃ d, owns (c : Thread nD τ) scB fullShare d)) ∗ ∃ r, prngReg c r) := by
  unfold Pipeline.ΦA
  rw [scopedRest0_eq]; simp only [scA, scB, owns_whole]; try rfl

/-- What the scratch holds at the start meets the condition before the first point. -/
theorem inv_in (c : Dev nD) : (Pipeline.ΦA spec0 c : sProp 𝕄) ⊢ (dats m 0 c).Φ 0 := by
  rw [show (dats m 0 c).Φ 0 = inv m c 0 from rfl, rest_eq, inv_even m c 0 (by decide)]
  iintro ⟨⟨HA, HB⟩, HR⟩
  isplitl [HA]; · iexact HA
  isplitl [HB]; · iexact HB
  iexact HR

/-- The condition after the last point gives back the scratch, holding something. -/
theorem inv_out (c : Dev nD) : (dats m 0 c).Φ (Fin.last cfg0.N) ⊢ (Pipeline.ΦA spec0 c : sProp 𝕄) := by
  rw [show (dats m 0 c).Φ (Fin.last cfg0.N) = inv m c (Fin.last cfg0.N) from rfl, rest_eq,
    inv_even m c (Fin.last cfg0.N) (by show ¬ grid0.N % 2 = 1; rw [N_0]; decide)]
  iintro ⟨HA, HB, HR⟩
  isplitl [HA HB]
  · isplitl [HA]; · iexact HA
    iexact HB
  iexact HR

set_option backward.isDefEq.respectTransparency.types false in
/-- Every execution of the program ends, with each array at what the proof data gives and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := inv_in m) (hout := inv_out m)

/-- The run as the claims read it: the argument unchanged, the counters at zero, the result as the pipeline's
    write-backs leave it. -/
theorem run_main : θ_run defs (onTc (τ := τ) (main (F := F))) ⟨m, fun _ => 0, ρ⟩ (fun r =>
    ((∀ c : Dev nD, r.2.mem ((c.tc : Thread nD τ).loc main_arg0) = m ((c.tc : Thread nD τ).loc main_arg0)) ∧ r.2.sem = fun _ => 0)
      ∧ ∀ c : Dev nD, r.2.mem ((c.tc : Thread nD τ).loc main_v9) = (dats m 0 c).arrAt 2 cfg0.N) :=
  (θ_run defs _ _).mono (fun _ h =>
    ⟨⟨fun c => ((h.1 c).2 main_arg0 (Pipeline.mem_restRefs_of main_arg0 (by decide) (by decide))).trans (V_main_arg0 m c), h.2⟩,
      fun c => (h.1 c).1 2⟩) (run_all m ρ)

end Cert.Proof.Body

end
-- ==== Proof.Frames.lean ====
/- The frames: the kernel's from its one run over any value instance, the reference's from its host run. -/
module

public import proofs.«01_k».proof.Defs
public import proofs.«01_k».proof.Proof.Gen.Kernel
public import proofs.«01_k».proof.Proof.Gen.ReferenceIdeal.Run
public import proofs.«01_k».proof.Proof.Gen.Pre_separated
public import proofs.«01_k».proof.Proof.Run
public import Idealize.ShloMosaic.Adequacy
public import Idealize.ShloMosaic.Init

@[expose] public section

noncomputable section

namespace Cert.Proof

open Idealize.ShloMosaic Idealize.SL.Sem

/-- The two printings of the kernel have one body table. -/
theorem table_eq : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) ?_
  funext l a
  match l, a with
  | 0, (t, s) => rfl
  | ⟨_ + 1, h⟩, _ => exact absurd h (Nat.not_lt.2 (Nat.le_add_left _ _))

/-- So they have one table of definitions. -/
theorem defs_eq : Cert.Kernel.defs (F := Bits) = Cert.KernelIdeal.defs (F := Bits) :=
  congrArg (Pipeline.defs (Cert.KernelIdeal.pcfgs (F := Bits))) table_eq

/-- Every run of the kernel as compiled ends, its argument as it was and every counter at zero. -/
theorem frame_kernel : Cert.quiescent_Kernel := fun m ρ _ =>
  Eq.mpr (congrArg (fun d => θ_run d (onTc (τ := Cert.KernelIdeal.τ) (Cert.KernelIdeal.main (F := Bits))) ⟨m, fun _ => 0, ρ⟩
      (fun r => (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0)) defs_eq)
    ((θ_run Cert.KernelIdeal.defs _ _).mono (fun _ h => h.1) (Body.run_main (F := Bits) m ρ))

/-- The same over the extended reals. -/
theorem frame_kernelIdeal : Cert.quiescent_KernelIdeal := fun m ρ _ =>
  (θ_run Cert.KernelIdeal.defs _ _).mono (fun _ h => h.1) (Body.run_main (F := Ideal) m ρ)

/-- The same where the precondition holds. -/
theorem frame_kernelIdeal_pre : Cert.quiescent_KernelIdeal_pre_separated := fun m ρ _ =>
  (θ_run Cert.KernelIdeal.defs _ _).mono (fun _ h => h.1) (Body.run_main (F := Ideal) m ρ)

/-- Every run of the reference ends, its argument as it was and every counter at zero. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same where the precondition holds. -/
theorem frame_reference_pre : Cert.quiescent_ReferenceIdeal_pre_separated := fun m ρ _ => frame_reference m ρ trivial

end Cert.Proof

end
-- ==== Proof.Pick.lean ====
/- Selecting the k greatest entries of a row: the entries that a threshold with a tie count keeps are those of rank below k. -/
module

public import Idealize.ShloMosaic.Lib.ValueIdx

@[expose] public section

noncomputable section

namespace Cert.Proof.Pick

open Finset

variable {n : ℕ} (w : Fin n → EReal)

/-- How many entries come before entry `i`: the greater ones, and the equal ones at an earlier position. -/
def rank (i : Fin n) : ℕ := (univ.filter fun j => w i < w j ∨ (w j = w i ∧ j < i)).card

/-- How many entries are above `t`. -/
def above (t : EReal) : ℕ := (univ.filter fun j => t < w j).card

/-- How many entries are at least `t`. -/
def atLeast (t : EReal) : ℕ := (univ.filter fun j => t ≤ w j).card

/-- How many entries before position `i` are equal to `t`. -/
def tiesBefore (t : EReal) (i : Fin n) : ℕ := (univ.filter fun j => w j = t ∧ j < i).card

/-- At most all entries are above a value. -/
theorem above_le (t : EReal) : above w t ≤ n := (card_filter_le _ _).trans (by simp)

/-- At most all entries are ties before a place. -/
theorem tiesBefore_le (t : EReal) (i : Fin n) : tiesBefore w t i ≤ n := (card_filter_le _ _).trans (by simp)

/-- At most all entries reach a value. -/
theorem atLeast_le (t : EReal) : atLeast w t ≤ n := (card_filter_le _ _).trans (by simp)

/-- An entry's rank is the count above it and the ties before it. -/
theorem rank_eq (i : Fin n) : rank w i = above w (w i) + tiesBefore w (w i) i := by
  unfold rank above tiesBefore
  rw [filter_or, card_union_of_disjoint]
  rw [disjoint_filter]
  rintro j _ h ⟨e, _⟩
  exact absurd e h.ne'

/-- Where at most `k` entries are above `t` and at least `k` reach it, keeping the entries above `t` and the first
    ones equal to it keeps the entries of rank below `k`. -/
theorem keep_iff {t : EReal} {k : ℕ} (h1 : above w t ≤ k) (h2 : k ≤ atLeast w t) (i : Fin n) :
    (t < w i ∨ (w i = t ∧ tiesBefore w t i < k - above w t)) ↔ rank w i < k := by
  rcases lt_trichotomy t (w i) with h | h | h
  · refine iff_of_true (Or.inl h) (lt_of_lt_of_le ?_ h1)
    refine card_lt_card ⟨fun j hj => ?_, fun hs => ?_⟩
    · simp only [mem_filter, mem_univ, true_and] at hj ⊢
      rcases hj with hj | ⟨hj, _⟩
      · exact h.trans hj
      · exact hj ▸ h
    · have := hs (mem_filter.2 ⟨mem_univ i, h⟩)
      simp at this
  · rw [rank_eq, ← h]
    simp only [lt_self_iff_false, false_or, true_and]
    omega
  · refine iff_of_false ?_ ?_
    · rintro (h' | ⟨h', _⟩)
      · exact absurd h' h.asymm
      · exact absurd h' h.ne
    · refine not_lt.2 (h2.trans (card_le_card fun j hj => ?_))
      simp only [mem_filter, mem_univ, true_and] at hj ⊢
      exact Or.inl (h.trans_le hj)

/-- A value that some entry of rank `k` does not exceed has at most `k` entries above it. -/
theorem above_le_of_rank {t : EReal} {k : ℕ} {i : Fin n} (hi : rank w i = k) (ht : w i ≤ t) : above w t ≤ k := by
  rw [← hi]
  refine card_le_card fun j hj => ?_
  simp only [mem_filter, mem_univ, true_and] at hj ⊢
  exact Or.inl (ht.trans_lt hj)

/-- A value not above some entry of rank `k` is reached by more than `k` entries. -/
theorem lt_atLeast_of_rank {t : EReal} {k : ℕ} {i : Fin n} (hi : rank w i = k) (ht : t ≤ w i) : k < atLeast w t := by
  rw [← hi]
  refine card_lt_card ⟨fun j hj => ?_, fun hs => ?_⟩
  · simp only [mem_filter, mem_univ, true_and] at hj ⊢
    rcases hj with hj | ⟨hj, _⟩
    · exact ht.trans hj.le
    · exact hj ▸ ht
  · have := hs (mem_filter.2 ⟨mem_univ i, ht⟩)
    simp at this

/-- The greater the value, the fewer entries reach it. -/
theorem atLeast_anti {s t : EReal} (h : s ≤ t) : atLeast w t ≤ atLeast w s :=
  card_le_card fun j hj => by
    simp only [mem_filter, mem_univ, true_and] at hj ⊢
    exact h.trans hj

/-- All entries reach a value that exceeds none of them. -/
theorem atLeast_of_le {t : EReal} (h : ∀ j, t ≤ w j) : atLeast w t = n := by
  unfold atLeast
  rw [filter_true_of_mem (fun j _ => h j)]
  simp

/-- No entry reaches a value above all of them. -/
theorem atLeast_of_lt {t : EReal} (h : ∀ j, w j < t) : atLeast w t = 0 := by
  unfold atLeast
  rw [filter_false_of_mem (fun j _ => not_le.2 (h j))]
  simp

/-- The row with the entries of rank below `k` kept and the others at zero. -/
def kept (k : ℕ) (i : Fin n) : EReal := if rank w i < k then w i else 0

end Cert.Proof.Pick

end
-- ==== Proof.Words.lean ====
/- The non-negative single-precision words below infinity as reals: the value is increasing in the word, and from a
   normal word to the next it grows by at most one unit in the last place. -/
module

public import Idealize.ShloMosaic.Lib.ValueIdx

@[expose] public section

noncomputable section

namespace Cert.Proof.Words

open Idealize.ShloMosaic

/-- The real that the word with number `z` stands for. -/
def wordVal (z : ℕ) : ℝ :=
  if z / 2 ^ 23 = 0 then ((z % 2 ^ 23 : ℕ) : ℝ) * (2 : ℝ) ^ (-149 : ℤ)
  else ((2 ^ 23 + z % 2 ^ 23 : ℕ) : ℝ) * (2 : ℝ) ^ ((z / 2 ^ 23 : ℕ) - 150 : ℤ)

/-- A word below that of infinity, read as a float, is that real. -/
theorem ofBits_word {b : BitVec 32} (h : b.toNat < 0x7F800000) : Ideal.ofBits .f32 b = ((wordVal b.toNat : ℝ) : EReal) := by
  have hs : (b.extractLsb' (8 + 23) 1 == 1#1) = false := by
    rw [beq_eq_false_iff_ne, ne_eq, ← BitVec.toNat_inj]
    simp only [BitVec.extractLsb'_toNat, Nat.shiftRight_eq_div_pow]
    simp
    omega
  have he : (b.extractLsb' 23 8).toNat = b.toNat / 2 ^ 23 := by
    rw [BitVec.extractLsb'_toNat, Nat.shiftRight_eq_div_pow]
    omega
  have hf : (b.extractLsb' 0 23).toNat = b.toNat % 2 ^ 23 := by
    rw [BitVec.extractLsb'_toNat, Nat.shiftRight_eq_div_pow]
    simp
  unfold Ideal.ofBits Ideal.ieee wordVal
  simp only [hs, he, hf]
  rw [if_neg (by omega)]
  split
  · simp only [if_false, Bool.false_eq_true, one_mul]
    norm_num
  · simp only [if_false, Bool.false_eq_true, one_mul]
    congr 3
    push_cast
    ring

/-- The next word's value where this one is below the normal ones. -/
theorem wordVal_succ_of_sub {z : ℕ} (h : z / 2 ^ 23 = 0) :
    wordVal (z + 1) = ((z % 2 ^ 23 : ℕ) + 1 : ℝ) * (2 : ℝ) ^ (-149 : ℤ) := by
  unfold wordVal
  by_cases hc : z % 2 ^ 23 + 1 < 2 ^ 23
  · rw [if_pos (by omega), show (z + 1) % 2 ^ 23 = z % 2 ^ 23 + 1 by omega]
    push_cast; ring
  · rw [if_neg (by omega), show (z + 1) % 2 ^ 23 = 0 by omega, show (z + 1) / 2 ^ 23 = 1 by omega,
      show z % 2 ^ 23 = 2 ^ 23 - 1 by omega]
    norm_num

/-- The next word's value where this one is normal. -/
theorem wordVal_succ_of_normal {z : ℕ} (h : z / 2 ^ 23 ≠ 0) :
    wordVal (z + 1) = ((2 ^ 23 + z % 2 ^ 23 : ℕ) + 1 : ℝ) * (2 : ℝ) ^ ((z / 2 ^ 23 : ℕ) - 150 : ℤ) := by
  unfold wordVal
  by_cases hc : z % 2 ^ 23 + 1 < 2 ^ 23
  · rw [if_neg (by omega), show (z + 1) % 2 ^ 23 = z % 2 ^ 23 + 1 by omega, show (z + 1) / 2 ^ 23 = z / 2 ^ 23 by omega]
    push_cast; ring
  · rw [if_neg (by omega), show (z + 1) % 2 ^ 23 = 0 by omega, show (z + 1) / 2 ^ 23 = z / 2 ^ 23 + 1 by omega,
      show z % 2 ^ 23 = 2 ^ 23 - 1 by omega,
      show (((z / 2 ^ 23 + 1 : ℕ) : ℤ) - 150) = ((z / 2 ^ 23 : ℕ) - 150 : ℤ) + 1 by push_cast; ring,
      zpow_add_one₀ (by norm_num)]
    push_cast
    norm_num
    ring

/-- The next word's value is no smaller. -/
theorem wordVal_le_succ (z : ℕ) : wordVal z ≤ wordVal (z + 1) := by
  by_cases h : z / 2 ^ 23 = 0
  · rw [wordVal_succ_of_sub h, wordVal, if_pos h]
    exact mul_le_mul_of_nonneg_right (by linarith) (by positivity)
  · rw [wordVal_succ_of_normal h, wordVal, if_neg h]
    exact mul_le_mul_of_nonneg_right (by linarith) (by positivity)

/-- The value is monotone in the word. -/
theorem wordVal_mono : Monotone wordVal := monotone_nat_of_le_succ wordVal_le_succ

/-- From a normal word to the next the value grows by at most one unit in the last place. -/
theorem wordVal_succ_le {z : ℕ} (h : 2 ^ 23 ≤ z) : wordVal (z + 1) ≤ wordVal z * (1 + (2 : ℝ) ^ (-23 : ℤ)) := by
  have h' : z / 2 ^ 23 ≠ 0 := by omega
  rw [wordVal_succ_of_normal h', wordVal, if_neg h']
  set p := (2 : ℝ) ^ ((z / 2 ^ 23 : ℕ) - 150 : ℤ) with hp
  have hp0 : 0 ≤ p := by positivity
  have h1 : (1 : ℝ) ≤ ((2 ^ 23 + z % 2 ^ 23 : ℕ) : ℝ) * (2 : ℝ) ^ (-23 : ℤ) := by
    push_cast
    have : (0 : ℝ) ≤ ((z % 2 ^ 23 : ℕ) : ℝ) := Nat.cast_nonneg _
    norm_num at this ⊢
    nlinarith
  nlinarith

/-- The word zero has the value zero. -/
theorem wordVal_zero : wordVal 0 = 0 := by simp [wordVal]

/-- The least normal word has the value 2^-126. -/
theorem wordVal_least_normal : wordVal (2 ^ 23) = (2 : ℝ) ^ (-126 : ℤ) := by norm_num [wordVal]

/-- The word after one's has the value one and one unit in the last place. -/
theorem wordVal_above_one : wordVal 1065353217 = 1 + (2 : ℝ) ^ (-23 : ℤ) := by norm_num [wordVal]

/-- The word that follows one's is one and one unit in the last place. -/
theorem ofBits_above_one : Ideal.ofBits .f32 0x3F800001#32 = ((1 + (2 : ℝ) ^ (-23 : ℤ) : ℝ) : EReal) := by
  rw [ofBits_word (by decide), ← wordVal_above_one]
  rfl

end Cert.Proof.Words

end
-- ==== Proof.Search.lean ====
/- Halving an interval of words thirty times, and the threshold that the search over a row's counts ends with. -/
module

public import Idealize.ShloMosaic.Lib.WordCmp
public import proofs.«01_k».proof.Proof.Pick
public import proofs.«01_k».proof.Proof.Words

@[expose] public section

noncomputable section

namespace Cert.Proof.Search

open Idealize.ShloMosaic Cert.Proof.Pick Cert.Proof.Words

/-- The word halfway between two. -/
def mid (lo hi : BitVec 32) : BitVec 32 := IntOp.shrsi .vector (IntOp.addi lo hi) 1#32

/-- Its number is half the sum where the sum stays below half the range. -/
theorem mid_toNat {lo hi : BitVec 32} (h : lo.toNat + hi.toNat < 2 ^ 31) : (mid lo hi).toNat = (lo.toNat + hi.toNat) / 2 := by
  have hs : (lo + hi).toNat = lo.toNat + hi.toNat := by rw [BitVec.toNat_add]; omega
  have hm : (lo + hi).msb = false := by rw [BitVec.msb_eq_false_iff_two_mul_lt, hs]; omega
  unfold mid IntOp.shrsi IntOp.addi
  rw [if_pos (by decide), show (lo + hi).sshiftRight' 1#32 = (lo + hi).sshiftRight 1 from rfl,
    BitVec.sshiftRight_eq_of_msb_false hm, BitVec.toNat_ushiftRight, hs, Nat.shiftRight_eq_div_pow, pow_one]

/-- A bit that is not one is zero. -/
theorem eq_zero_of_ne_one' {b : BitVec 1} (h : ¬ b = 1#1) : b = 0#1 := by
  revert h; revert b; decide

/-- One step of the search: the half that still has a word with the property at its lower end. -/
def step (c : BitVec 32 → BitVec 1) (p : BitVec 32 × BitVec 32) : BitVec 32 × BitVec 32 :=
  (Scalar.select (c (mid p.1 p.2)) (mid p.1 p.2) p.1, Scalar.select (c (mid p.1 p.2)) p.2 (mid p.1 p.2))

/-- After as many steps as the interval's width has binary digits, the lower end has the property and the next word
    has it not. -/
theorem search (c : BitVec 32 → BitVec 1) (C : ℕ → Prop) (hi0 : ℕ) (hhi : hi0 < 2 ^ 30)
    (hc : ∀ b : BitVec 32, b.toNat ≤ hi0 → (c b = 1#1 ↔ C b.toNat)) :
    ∀ (n : ℕ) (p : BitVec 32 × BitVec 32), p.1.toNat < p.2.toNat → p.2.toNat ≤ hi0 → p.2.toNat - p.1.toNat ≤ 2 ^ n →
      C p.1.toNat → ¬ C p.2.toNat →
      ∀ q, q = (step c)^[n] p → C q.1.toNat ∧ ¬ C (q.1.toNat + 1) ∧ q.1.toNat + 1 ≤ hi0 := by
  intro n
  induction n with
  | zero =>
    intro p h1 h2 h3 h4 h5 q hq
    rw [Function.iterate_zero, id_eq] at hq
    rw [hq]
    have : p.2.toNat = p.1.toNat + 1 := by simp only [pow_zero] at h3; omega
    exact ⟨h4, this ▸ h5, by omega⟩
  | succ n ih =>
    intro p h1 h2 h3 h4 h5 q hq
    rw [Function.iterate_succ_apply] at hq
    have hm := mid_toNat (lo := p.1) (hi := p.2) (by omega)
    have hp : 2 ^ (n + 1) = 2 * 2 ^ n := by ring
    have hpos : 0 < 2 ^ n := Nat.two_pow_pos n
    have hle : (mid p.1 p.2).toNat ≤ hi0 := by omega
    by_cases hC : C (mid p.1 p.2).toNat
    · have e : step c p = (mid p.1 p.2, p.2) := by
        unfold step
        rw [(hc _ hle).2 hC]
        rfl
      rw [e] at hq
      exact ih (mid p.1 p.2, p.2) (show (mid p.1 p.2).toNat < p.2.toNat by omega) h2
        (show p.2.toNat - (mid p.1 p.2).toNat ≤ 2 ^ n by omega) hC h5 q hq
    · have e : step c p = (p.1, mid p.1 p.2) := by
        unfold step
        rw [eq_zero_of_ne_one' (fun h => hC ((hc _ hle).1 h))]
        rfl
      have hne : (mid p.1 p.2).toNat ≠ p.1.toNat := fun h => hC (h ▸ h4)
      rw [e] at hq
      exact ih (p.1, mid p.1 p.2) (show p.1.toNat < (mid p.1 p.2).toNat by omega) hle
        (show (mid p.1 p.2).toNat - p.1.toNat ≤ 2 ^ n by omega) h4 hC q hq
/-- The row's `k`-th greatest entry exceeds the next one by more than one unit in the last place. -/
def Apart {n : ℕ} (w : Fin n → EReal) (k : ℕ) : Prop :=
  ∃ i j, rank w i = k - 1 ∧ rank w j = k ∧ w j * ((1 + (2 : ℝ) ^ (-23 : ℤ) : ℝ) : EReal) < w i

/-- A row of reals between the least normal number and one. -/
def Normal {n : ℕ} (w : Fin n → EReal) : Prop :=
  ∀ i, ∃ v : ℝ, w i = (v : EReal) ∧ (2 : ℝ) ^ (-126 : ℤ) ≤ v ∧ v ≤ 1

/-- A normal row whose `k`-th entry stands apart from the next: the greatest word that `k` entries reach has at most
    `k` entries above it. -/
theorem threshold {n k : ℕ} (hk : 0 < k) (hkn : k ≤ n) {w : Fin n → EReal} (hw : Normal w) (ha : Apart w k) {z : ℕ}
    (h1 : k ≤ atLeast w ((wordVal z : ℝ) : EReal)) (h2 : ¬ k ≤ atLeast w ((wordVal (z + 1) : ℝ) : EReal)) :
    above w ((wordVal z : ℝ) : EReal) ≤ k := by
  obtain ⟨i, j, hi, hj, hlt⟩ := ha
  obtain ⟨vi, ei, -, -⟩ := hw i
  obtain ⟨vj, ej, -, -⟩ := hw j
  have hz : 2 ^ 23 ≤ z := by
    by_contra hz
    refine h2 (hkn.trans (atLeast_of_le w fun l => ?_).ge)
    obtain ⟨v, e, hv, -⟩ := hw l
    rw [e, EReal.coe_le_coe_iff]
    exact ((wordVal_mono (show z + 1 ≤ 2 ^ 23 by omega)).trans wordVal_least_normal.le).trans hv
  have hvi : vi < wordVal (z + 1) := by
    by_contra h
    refine h2 ?_
    have := lt_atLeast_of_rank w (t := ((wordVal (z + 1) : ℝ) : EReal)) hi (by rw [ei, EReal.coe_le_coe_iff]; exact not_lt.1 h)
    omega
  rw [ei, ej, ← EReal.coe_mul, EReal.coe_lt_coe_iff] at hlt
  have hs := wordVal_succ_le hz
  have hc : (0 : ℝ) < 1 + (2 : ℝ) ^ (-23 : ℤ) := by positivity
  refine above_le_of_rank w hj ?_
  rw [ej, EReal.coe_le_coe_iff]
  exact le_of_lt (lt_of_mul_lt_mul_right (lt_of_lt_of_le (hlt.trans hvi) hs) hc.le)

/-- At the least word every entry of a normal row counts, at the word after one's none does. -/
theorem atLeast_zero {n : ℕ} {w : Fin n → EReal} (hw : Normal w) : atLeast w ((wordVal 0 : ℝ) : EReal) = n :=
  atLeast_of_le w fun l => by
    obtain ⟨v, e, hv, -⟩ := hw l
    rw [e, EReal.coe_le_coe_iff, wordVal_zero]
    exact le_trans (by positivity) hv

/-- No entry of a normal row reaches the word after one's. -/
theorem atLeast_above_one {n : ℕ} {w : Fin n → EReal} (hw : Normal w) : atLeast w ((wordVal 1065353217 : ℝ) : EReal) = 0 :=
  atLeast_of_lt w fun l => by
    obtain ⟨v, e, -, hv⟩ := hw l
    rw [e, EReal.coe_lt_coe_iff, wordVal_above_one]
    have : (0 : ℝ) < (2 : ℝ) ^ (-23 : ℤ) := by positivity
    linarith

/-- The search over a normal row whose `k`-th entry stands apart: its word's value has at most `k` entries above it,
    and at least `k` reach it. -/
theorem search_row {n k : ℕ} (hk : 0 < k) (hkn : k ≤ n) {w : Fin n → EReal} (hw : Normal w) (ha : Apart w k)
    (c : BitVec 32 → BitVec 1)
    (hc : ∀ b : BitVec 32, b.toNat ≤ 1065353217 → (c b = 1#1 ↔ k ≤ atLeast w (Ideal.ofBits .f32 b))) :
    above w (Ideal.ofBits .f32 ((step c)^[30] (0#32, 1065353217#32)).1) ≤ k
      ∧ k ≤ atLeast w (Ideal.ofBits .f32 ((step c)^[30] (0#32, 1065353217#32)).1) := by
  obtain ⟨h1, h2, h3⟩ := search c (fun z => k ≤ atLeast w ((wordVal z : ℝ) : EReal)) 1065353217 (by norm_num)
    (fun b hb => by rw [hc b hb, ofBits_word (by omega)]) 30 (0#32, 1065353217#32) (by decide) (by decide) (by decide)
    (by show k ≤ atLeast w ((wordVal 0 : ℝ) : EReal); rw [atLeast_zero hw]; exact hkn)
    (by show ¬ k ≤ atLeast w ((wordVal 1065353217 : ℝ) : EReal); rw [atLeast_above_one hw]; omega) _ rfl
  rw [ofBits_word (by omega)]
  exact ⟨threshold hk hkn hw ha h1 h2, h1⟩

end Cert.Proof.Search

end
-- ==== Proof.Soft.lean ====
/- A row of non-negative numbers through softmax twice: each entry is undefined, or each is a real between the least
   normal number and one. -/
module

public import proofs.«01_k».proof.Proof.Search

@[expose] public section

noncomputable section

namespace Cert.Proof.Soft

open Idealize.ShloMosaic Finset Cert.Proof.Search

variable {n : ℕ}

/-- The greatest entry of a row. -/
def top (r : Fin n → EReal) : EReal := univ.fold max ⊥ r

/-- The least entry of a row. -/
def bot (r : Fin n → EReal) : EReal := univ.fold min ⊤ r

/-- Softmax of a row, shifted by its greatest entry. -/
def soft (r : Fin n → EReal) (i : Fin n) : EReal :=
  Ideal.div (Ideal.exp (r i - top r)) (∑ j, Ideal.exp (r j - top r))

/-- No entry exceeds the greatest one. -/
theorem le_top (r : Fin n → EReal) (i : Fin n) : r i ≤ top r :=
  (Finset.le_fold_max (r i)).2 (Or.inr ⟨i, mem_univ i, le_rfl⟩)

/-- A bound of all entries bounds the greatest one. -/
theorem top_le {r : Fin n → EReal} {b : EReal} (h : ∀ i, r i ≤ b) : top r ≤ b :=
  (Finset.fold_max_le b).2 ⟨bot_le, fun i _ => h i⟩

/-- The least entry exceeds none. -/
theorem bot_le (r : Fin n → EReal) (i : Fin n) : bot r ≤ r i :=
  (Finset.fold_min_le (r i)).2 (Or.inr ⟨i, mem_univ i, le_rfl⟩)

/-- A row that is not empty has its greatest entry at some place. -/
theorem exists_top (hn : 0 < n) (r : Fin n → EReal) : ∃ i, r i = top r := by
  haveI : Nonempty (Fin n) := ⟨⟨0, hn⟩⟩
  obtain ⟨i, hi⟩ := Finite.exists_max r
  exact ⟨i, le_antisymm (le_top r i) (top_le hi)⟩

/-- A row whose greatest entry is infinite has no softmax. -/
theorem soft_of_top {r : Fin n → EReal} (h : top r = ⊤) (i : Fin n) : soft r i = ⊥ := by
  have e : ∀ j, Ideal.exp (r j - top r) = 0 := fun j => by
    rw [h, EReal.sub_top]
    rfl
  unfold soft
  simp only [e, sum_const_zero]
  simp [Ideal.div]

/-- An undefined row has an undefined softmax. -/
theorem soft_of_bot {r : Fin n → EReal} (h : ∀ j, r j = ⊥) (i : Fin n) : soft r i = ⊥ := by
  have e : ∀ j, Ideal.exp (r j - top r) = 0 := fun j => by
    rw [h j, EReal.bot_sub]
    rfl
  unfold soft
  simp only [e, sum_const_zero]
  simp [Ideal.div]

/-- A sum of reals, taken in the extended reals, is the sum of the reals. -/
theorem coe_sum (f : Fin n → ℝ) (s : Finset (Fin n)) : ∑ j ∈ s, ((f j : ℝ) : EReal) = ((∑ j ∈ s, f j : ℝ) : EReal) := by
  classical
  induction s using Finset.induction_on with
  | empty => simp
  | insert a s ha ih => rw [sum_insert ha, sum_insert ha, ih, EReal.coe_add]

/-- The softmax of a row of reals is the reals' softmax. -/
theorem soft_coe (hn : 0 < n) (a : Fin n → ℝ) :
    ∃ i0, (∀ i, a i ≤ a i0) ∧ ∀ i, soft (fun j => (a j : EReal)) i
      = ((Real.exp (a i - a i0) / ∑ j, Real.exp (a j - a i0) : ℝ) : EReal) := by
  obtain ⟨i0, h0⟩ := exists_top hn fun j => (a j : EReal)
  refine ⟨i0, fun i => ?_, fun i => ?_⟩
  · have := le_top (fun j => (a j : EReal)) i
    rw [← h0, EReal.coe_le_coe_iff] at this
    exact this
  · have e : ∀ j, Ideal.exp ((a j : EReal) - top fun j => (a j : EReal)) = ((Real.exp (a j - a i0) : ℝ) : EReal) := fun j => by
      rw [← h0, ← EReal.coe_sub]
      rfl
    unfold soft
    simp only [e]
    rw [coe_sum]
    haveI : Nonempty (Fin n) := ⟨⟨0, hn⟩⟩
    have hp : 0 < ∑ j, Real.exp (a j - a i0) := sum_pos (fun j _ => Real.exp_pos _) univ_nonempty
    rw [Ideal.div_coe hp.ne', ← EReal.coe_mul, mul_one_div]

/-- The weights of a row: softmax twice. -/
def wts (r : Fin n → EReal) : Fin n → EReal := soft (soft r)

/-- The weights of a non-negative row are all undefined, or all reals between the least normal number and one. -/
theorem wts_cases (hn : 0 < n) (hn' : n ≤ 2 ^ 20) {r : Fin n → EReal} (h : ∀ i, 0 ≤ r i) :
    (∀ i, wts r i = ⊥) ∨ Normal (wts r) := by
  haveI : Nonempty (Fin n) := ⟨⟨0, hn⟩⟩
  by_cases ht : top r = ⊤
  · exact Or.inl fun i => soft_of_bot (soft_of_top ht) i
  refine Or.inr ?_
  have hr : ∀ i, r i = ((r i).toReal : EReal) := fun i =>
    (EReal.coe_toReal (fun e => ht (top_le_iff.1 (e ▸ le_top r i))) (fun e => by have := h i; rw [e] at this; simp at this)).symm
  obtain ⟨i0, h0, h1⟩ := soft_coe hn fun i => (r i).toReal
  have e1 : r = fun i => ((r i).toReal : EReal) := funext hr
  rw [← e1] at h1
  set s : Fin n → ℝ := fun i => Real.exp ((r i).toReal - (r i0).toReal) / ∑ j, Real.exp ((r j).toReal - (r i0).toReal) with hs
  have hs0 : ∀ i, 0 ≤ s i := fun i => div_nonneg (Real.exp_pos _).le (sum_nonneg fun j _ => (Real.exp_pos _).le)
  have hs1 : ∀ i, s i ≤ 1 := fun i => by
    refine div_le_one_of_le₀ ?_ (sum_nonneg fun j _ => (Real.exp_pos _).le)
    exact single_le_sum (f := fun j => Real.exp ((r j).toReal - (r i0).toReal)) (fun j _ => (Real.exp_pos _).le) (mem_univ i)
  obtain ⟨i2, h2, h3⟩ := soft_coe hn s
  have e2 : soft r = fun i => (s i : EReal) := funext h1
  intro i
  refine ⟨_, by rw [wts, e2]; exact h3 i, ?_, ?_⟩
  · have hp : 0 < ∑ j, Real.exp (s j - s i2) := sum_pos (fun j _ => Real.exp_pos _) univ_nonempty
    have hle : ∑ j, Real.exp (s j - s i2) ≤ 2 ^ 20 := by
      have : ∑ j : Fin n, Real.exp (s j - s i2) ≤ ∑ j : Fin n, (1 : ℝ) :=
        sum_le_sum fun j _ => Real.exp_le_one_iff.2 (by linarith [h2 j])
      refine this.trans ?_
      simp only [sum_const, card_univ, Fintype.card_fin, nsmul_eq_mul, mul_one]
      exact_mod_cast hn'
    rw [le_div_iff₀ hp]
    have h4 : Real.exp (-1) ≤ Real.exp (s i - s i2) := Real.exp_le_exp.2 (by linarith [hs0 i, hs1 i2])
    have h5 : (1 / 4 : ℝ) ≤ Real.exp (-1) := by
      have h6 := Real.add_one_le_exp (-1 / 2 : ℝ)
      rw [show (-1 : ℝ) = -1 / 2 + -1 / 2 by norm_num, Real.exp_add]
      nlinarith
    calc (2 : ℝ) ^ (-126 : ℤ) * ∑ j, Real.exp (s j - s i2) ≤ (2 : ℝ) ^ (-126 : ℤ) * 2 ^ 20 :=
          mul_le_mul_of_nonneg_left hle (by positivity)
      _ ≤ 1 / 4 := by norm_num
      _ ≤ _ := h5.trans h4
  · refine div_le_one_of_le₀ ?_ (sum_nonneg fun j _ => (Real.exp_pos _).le)
    exact single_le_sum (f := fun j => Real.exp (s j - s i2)) (fun j _ => (Real.exp_pos _).le) (mem_univ i)

/-- A row of weights whose `k`-th entry stands apart is not undefined. -/
theorem normal_of_apart (hn : 0 < n) (hn' : n ≤ 2 ^ 20) {r : Fin n → EReal} (h : ∀ i, 0 ≤ r i) {k : ℕ}
    (ha : Apart (wts r) k) : Normal (wts r) := by
  rcases wts_cases hn hn' h with hb | hb
  · obtain ⟨i, j, -, -, hlt⟩ := ha
    rw [hb i] at hlt
    exact absurd hlt not_lt_bot
  · exact hb

/-- A sum times a non-negative real is the sum of the products. -/
theorem sum_mul_coe {ι : Type} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [sum_insert ha, sum_insert ha, ih,
      EReal.right_distrib_of_nonneg_of_ne_top (EReal.coe_nonneg.2 hc) (EReal.coe_ne_top c)]

/-- Scaling one factor of an inner product by an eighth divides the inner product by eight. -/
theorem scaled_dot {ι : Type} [Fintype ι] (f g : ι → EReal) :
    ∑ c, f c * (g c * ((1 / 8 : ℝ) : EReal)) = Ideal.div (∑ c, f c * g c) ((8 : ℝ) : EReal) := by
  rw [Ideal.div_coe (by norm_num), ← sum_mul_coe _ _ (by norm_num)]
  exact sum_congr rfl fun c _ => (mul_assoc _ _ _).symm

end Cert.Proof.Soft

end
-- ==== Proof.Layout.lean ====
module

public import Idealize.ShloMosaic.Lib.ValueIdx
public import Idealize.ShloMosaic.Lib.ValueIdxCoords
public import Idealize.ShloMosaic.PureOps.Ideal.Laws
public import proofs.«01_k».proof.Proof.Soft

/-! The weights of the problem, row by row, and how a reduction along the last axis reads a row. -/

@[expose] public section

noncomputable section

namespace Cert.Proof.Layout

open Finset Idealize.ShloMosaic Idealize.ShloMosaic.ValueIdx
open Cert.Proof.Soft

/-- The feature a node has in a channel: the sum over the twelve times. -/
def feat (x : (⟨4, ![8, 64, 2048, 12]⟩ : Shape).Idx → EReal) (b : Fin 8) (c : Fin 64) (n : Fin 2048) : EReal :=
  ∑ t : Fin 12, x (ix4 b c n t)

/-- The score of node `i` for node `n`: the channels' inner product over eight, cut at zero. -/
def logit (x : (⟨4, ![8, 64, 2048, 12]⟩ : Shape).Idx → EReal) (b : Fin 8) (n i : Fin 2048) : EReal :=
  max (Ideal.div (∑ c, feat x b c n * feat x b c i) ((8 : ℝ) : EReal)) 0

/-- The weights of node `n`: its scores put through softmax twice. -/
def weights (x : (⟨4, ![8, 64, 2048, 12]⟩ : Shape).Idx → EReal) (b : Fin 8) (n : Fin 2048) : Fin 2048 → EReal :=
  wts (logit x b n)

/-- A score is not negative. -/
theorem logit_nonneg (x : (⟨4, ![8, 64, 2048, 12]⟩ : Shape).Idx → EReal) (b : Fin 8) (n i : Fin 2048) : 0 ≤ logit x b n i :=
  le_max_right _ _

/-- The word of zero denotes zero. -/
theorem bits_zero : Ideal.ofBits .f32 0x00000000#32 = 0 := Ideal.ofBits_zero_f32
/-- The word of minus infinity denotes the least extended real. -/
theorem bits_neg_inf : Ideal.ofBits .f32 0xFF800000#32 = ⊥ := by simp [Ideal.ofBits, Ideal.ieee]
/-- The word of infinity denotes the greatest extended real. -/
theorem bits_inf : Ideal.ofBits .f32 0x7F800000#32 = ⊤ := by simp [Ideal.ofBits, Ideal.ieee]
/-- The word of one denotes one. -/
theorem bits_one : Ideal.ofBits .f32 0x3F800000#32 = 1 := by
  simp [Ideal.ofBits, Ideal.ieee, -EReal.coe_mul]
  norm_num
/-- The word of eight denotes eight. -/
theorem bits_eight : Ideal.ofBits .f32 0x41000000#32 = ((8 : ℝ) : EReal) := by
  simp [Ideal.ofBits, Ideal.ieee, -EReal.coe_mul]
  norm_num
/-- The word of an eighth denotes an eighth. -/
theorem bits_eighth : Ideal.ofBits .f32 0x3E000000#32 = ((1 / 8 : ℝ) : EReal) := by
  simp [Ideal.ofBits, Ideal.ieee, -EReal.coe_mul]
  norm_num

/-- Of three axes with the last one reduced, the source index over a result index adds the place along the last axis. -/
theorem lift_last3 {A B m : ℕ} (h : (⟨3, ![A, B, m]⟩ : Shape).Reduces [2] (⟨2, ![A, B]⟩ : Shape)) (a : Fin A) (b : Fin B)
    (k : Fin ((⟨3, ![A, B, m]⟩ : Shape).size 2)) : h.lift (ix2 a b) k = ix3 a b (⟨k.val, k.isLt⟩ : Fin m) := by
  funext c
  apply Fin.ext
  fin_cases c <;> rfl

/-- Of two axes with the last one reduced, the source index over a result index adds the place along the last axis. -/
theorem lift_last2 {A m : ℕ} (h : (⟨2, ![A, m]⟩ : Shape).Reduces [1] (⟨1, ![A]⟩ : Shape)) (a : Fin A)
    (k : Fin ((⟨2, ![A, m]⟩ : Shape).size 1)) : h.lift (ix1 a) k = ix2 a (⟨k.val, k.isLt⟩ : Fin m) := by
  funext c
  apply Fin.ext
  fin_cases c <;> rfl

/-- A host reduction along the last of three axes is the fold of the row. -/
theorem hostReduce3 {α : Type} {A B m : ℕ} (f : α → α → α) [Std.Commutative f] [Std.Associative f]
    (x : (⟨3, ![A, B, m]⟩ : Shape).Idx → α) {u : Shape} (init : u.Idx → α)
    (h' : (⟨3, ![A, B, m]⟩ : Shape).ReducesTo [2] (⟨2, ![A, B]⟩ : Shape))
    (h : (⟨3, ![A, B, m]⟩ : Shape).Reduces [2] (⟨2, ![A, B]⟩ : Shape)) (hu : 0 < u.numel) (a : Fin A) (b : Fin B) :
    Host.reduce f x init h' hu (ix2 a b) = (univ : Finset (Fin m)).fold f (init (Shape.Idx.first hu)) fun k => x (ix3 a b k) := by
  rw [Host.reduce_eq_fold_single f x init h' h hu]
  exact congrArg (fun g => (univ : Finset (Fin m)).fold f (init (Shape.Idx.first hu)) g) (funext fun k => congrArg x (lift_last3 h a b k))

end Cert.Proof.Layout

end
-- ==== Proof.Scatter.lean ====
module

public import proofs.«01_k».proof.Proof.Gen.ReferenceIdeal.Read
public import Idealize.ShloMosaic.Lib.Routing.OpsPair
public import Idealize.ShloMosaic.Lib.ValueIdx

/-! The mask of the reference: ones written into zeros at the positions an index table names. -/

@[expose] public section

noncomputable section

namespace Cert.Proof.Scatter

open Cert.ReferenceIdeal Idealize.ShloMosaic Idealize.ShloMosaic.ValueIdx

/-- The dimensions of the reference's scatter. -/
abbrev dims : ScatterDims S8x2048x2048 S8x2048x1638x3 S8x2048x1638 :=
  scatter_S8x2048x2048_S8x2048x1638x3_S8x2048x1638_n_012_012_3

/-- Component `q` of the position an update is written at is read from place `q` of the last axis of the table. -/
theorem word_at (a : Fin 8) (b : Fin 2048) (p : Fin 1638) (q : Fin 3) (h : q.val < dims.scatterDimsToOperandDims.length) :
    dims.siIdx (ix3 a b p) ⟨q.val, h⟩ = ix4 a b p q := by
  funext z
  match z with
  | ⟨0, _⟩ => rfl
  | ⟨1, _⟩ => rfl
  | ⟨2, _⟩ => rfl
  | ⟨3, _⟩ => rfl

/-- An update is written at `(r, n, i)` exactly when its three words, read signed, are `r`, `n` and `i`. -/
theorem lands (idx : IVec S8x2048x1638x3 32) (a : Fin 8) (b : Fin 2048) (p : Fin 1638) (r : Fin 8) (n i : Fin 2048) :
    dims.resultIdx? (ix3 a b p) idx = some (ix3 r n i) ↔
      (idx (ix4 a b p 0)).toInt = r.val ∧ (idx (ix4 a b p 1)).toInt = n.val ∧ (idx (ix4 a b p 2)).toInt = i.val := by
  have hs : ∀ q : Fin 3, dims.start (ix3 a b p) idx q + (dims.window (ix3 a b p) q : Int) = (idx (ix4 a b p q)).toInt := by
    intro q
    have hw : dims.window (ix3 a b p) q = 0 := by
      match q with
      | ⟨0, _⟩ => rfl
      | ⟨1, _⟩ => rfl
      | ⟨2, _⟩ => rfl
    have hq : q ∈ dims.scatterDimsToOperandDims := by
      match q with
      | ⟨0, _⟩ => exact (by decide : (0 : Fin 3) ∈ ([0, 1, 2] : List (Fin 3)))
      | ⟨1, _⟩ => exact (by decide : (1 : Fin 3) ∈ ([0, 1, 2] : List (Fin 3)))
      | ⟨2, _⟩ => exact (by decide : (2 : Fin 3) ∈ ([0, 1, 2] : List (Fin 3)))
    have hi : dims.scatterDimsToOperandDims.idxOf q = q.val := by
      match q with
      | ⟨0, _⟩ => rfl
      | ⟨1, _⟩ => rfl
      | ⟨2, _⟩ => rfl
    rw [hw]
    unfold ScatterDims.start
    rw [dif_pos hq]
    simp only [hi]
    rw [word_at]
    simp
  rw [Routing.resultIdx?_eq_some]
  constructor
  · intro h
    exact ⟨(hs 0).symm.trans (h 0), (hs 1).symm.trans (h 1), (hs 2).symm.trans (h 2)⟩
  · rintro ⟨h0, h1, h2⟩ q
    match q with
    | ⟨0, _⟩ => exact (hs 0).trans h0
    | ⟨1, _⟩ => exact (hs 1).trans h1
    | ⟨2, _⟩ => exact (hs 2).trans h2

/-- A walk that writes the same value at every element that meets a condition ends with that value if one does, and with what it began with otherwise. -/
theorem walk_const {α β : Type} (l : List β) (P : β → Prop) [DecidablePred P] (z o : α) :
    ((∃ n ∈ l, P n) → l.foldl (fun a n => if P n then o else a) z = o) ∧
      ((∀ n ∈ l, ¬ P n) → l.foldl (fun a n => if P n then o else a) z = z) := by
  induction l generalizing z with
  | nil => exact ⟨fun ⟨n, hn, _⟩ => (List.not_mem_nil hn).elim, fun _ => rfl⟩
  | cons x l ih =>
    rw [List.foldl_cons]
    constructor
    · rintro ⟨n, hn, h⟩
      by_cases hl : ∃ n ∈ l, P n
      · exact (ih _).1 hl
      · have hl' : ∀ n ∈ l, ¬ P n := fun n hn h => hl ⟨n, hn, h⟩
        rcases List.mem_cons.1 hn with e | e
        · subst e
          rw [if_pos h]
          exact (ih _).2 hl'
        · exact (hl' n e h).elim
    · intro h
      rw [if_neg (h x List.mem_cons_self)]
      exact (ih _).2 fun n hn => h n (List.mem_cons_of_mem _ hn)

open Classical in
/-- Writing the same value `o` at every update: an element holds `o` if some update is written there, and what it held otherwise. -/
theorem scatter_const {α : Type} {s si t : Shape} {w : Nat} {d : ScatterDims s si t} (x : s.Idx → α) (u : t.Idx → α) (o : α)
    (hu : ∀ k, u k = o) (idx : IVec si w) (j : s.Idx) :
    Host.scatter d (fun _ b => b) x idx u j = if ∃ k, d.resultIdx? k idx = some j then o else x j := by
  rw [Routing.scatter_at]
  simp only [hu]
  have hc := walk_const (List.finRange t.numel) (fun n => d.resultIdx? (t.rowMajor.symm n) idx = some j) (x j) o
  by_cases h : ∃ k, d.resultIdx? k idx = some j
  · rw [if_pos h]
    obtain ⟨k, hk⟩ := h
    refine hc.1 ⟨t.rowMajor k, List.mem_finRange _, ?_⟩
    rw [Equiv.symm_apply_apply]
    exact hk
  · rw [if_neg h]
    exact hc.2 fun n _ hn => h ⟨_, hn⟩

open Classical in
/-- Writing the constant `o` at the positions of a table whose words are a row number, a line number and a column: an element holds `o` exactly when its own
    line of the table names its column. -/
theorem mask_apply {α : Type} (x : S8x2048x2048.Idx → α) (u : S8x2048x1638.Idx → α) (o : α) (hu : ∀ k, u k = o)
    (idx : IVec S8x2048x1638x3 32) (col : Fin 8 → Fin 2048 → Fin 1638 → Fin 2048)
    (h0 : ∀ a b p, idx (ix4 a b p 0) = BitVec.ofNat 32 a.val) (h1 : ∀ a b p, idx (ix4 a b p 1) = BitVec.ofNat 32 b.val)
    (h2 : ∀ a b p, idx (ix4 a b p 2) = BitVec.ofNat 32 (col a b p).val) (r : Fin 8) (n i : Fin 2048) :
    Host.scatter dims (fun _ b => b) x idx u (ix3 r n i) = if ∃ p, col r n p = i then o else x (ix3 r n i) := by
  rw [scatter_const x u o hu]
  refine if_congr ?_ rfl rfl
  have key : ∀ a b p, dims.resultIdx? (ix3 a b p) idx = some (ix3 r n i) ↔ a = r ∧ b = n ∧ col a b p = i := by
    intro a b p
    have ha := a.isLt
    have hb := b.isLt
    have hc := (col a b p).isLt
    have e : ∀ k : ℕ, k < 2048 → (BitVec.ofNat 32 k).toInt = k := fun k hk => by
      rw [BitVec.toInt_eq_toNat_of_lt] <;> rw [BitVec.toNat_ofNat] <;> omega
    rw [lands, h0, h1, h2, e _ (by omega), e _ (by omega), e _ (by omega)]
    simp only [Fin.ext_iff]
    omega
  constructor
  · rintro ⟨j, hk⟩
    rw [eq_ix3 j] at hk
    obtain ⟨e0, e1, e2⟩ := (key _ _ _).1 hk
    rw [e0, e1] at e2
    exact ⟨_, e2⟩
  · rintro ⟨p, hp⟩
    exact ⟨ix3 r n p, (key r n p).2 ⟨rfl, rfl, hp⟩⟩

end Cert.Proof.Scatter

end
-- ==== Proof.Top.lean ====
/- The k greatest entries of each fiber with their positions, as a stable sort leaves them: position p holds the entry
   of rank p. -/
module

public import Idealize.ShloMosaic.Lib.SortPrefix
public import Idealize.ShloMosaic.Lib.ValueIdxCoords
public import proofs.«01_k».proof.Proof.Pick

@[expose] public section

noncomputable section

namespace Cert.Proof.Top

open Idealize.ShloMosaic Idealize.ShloMosaic.ValueIdx Finset Cert.Proof.Pick

variable {n : ℕ} (w : Fin n → EReal)

/-- Greater first. -/
def greater (i j : Fin n) : Bool := decide (w j < w i)

/-- Greater first, and of equal entries the earlier one. -/
def comesFirst (i j : Fin n) : Bool := decide (w j < w i) || (decide (w i = w j) && decide (i < j))

/-- Of any two places exactly one comes first, and coming first is transitive. -/
theorem comesFirst_total : StrictTotalBefore (comesFirst w) := by
  refine StrictTotalBefore.of_key_then_position (fun a b : EReal => decide (b < a)) w (fun a => by simp) (fun a b c h1 h2 => ?_)
    (fun a b => ?_)
  · rw [decide_eq_true_eq] at *
    exact h2.trans h1
  · simp only [decide_eq_true_eq]
    rcases lt_trichotomy a b with h | h | h
    · exact Or.inr (Or.inr h)
    · exact Or.inr (Or.inl h)
    · exact Or.inl h

/-- A stable sort of positions in order breaks ties by the position. -/
theorem stableSort_greater : ∀ l : List (Fin n), l.Pairwise (· < ·) → stableSort (greater w) l = stableSort (comesFirst w) l
  | [], _ => rfl
  | a :: l, h => by
    rw [List.pairwise_cons] at h
    unfold stableSort
    rw [stableSort_greater l h.2]
    refine insertBefore_congr _ _ _ _ fun b hb => ?_
    have hab : a < b := h.1 b ((perm_stableSort _ l).mem_iff.1 hb)
    simp [greater, comesFirst, hab.le]

/-- Sorting by the greater entry alone puts the places in the same order as sorting with ties broken by position. -/
theorem sortedFrom_greater : sortedFrom (greater w) = sortedFrom (comesFirst w) := by
  have e : sortPositions n (greater w) = sortPositions n (comesFirst w) :=
    stableSort_greater w _ (List.pairwise_lt_finRange n)
  funext p
  unfold sortedFrom
  simp only [List.get_eq_getElem, e, Fin.val_cast]

/-- The entry a stable sort puts at position `p` has rank `p`. -/
theorem rank_sortedFrom (p : Fin n) : rank w (sortedFrom (greater w) p) = p.val := by
  classical
  rw [sortedFrom_greater]
  have hT := comesFirst_total w
  have hlt : ∀ i j : Fin n, i < j → comesFirst w (sortedFrom (comesFirst w) j) (sortedFrom (comesFirst w) i) = false :=
    fun i j hij => sortedFrom_noInversion (comesFirst w) (comesFirst w) (fun a b h => hT.asymm a b h) (fun _ _ h => h) hT.negTrans i j hij
  have hiff : ∀ q : Fin n, comesFirst w (sortedFrom (comesFirst w) q) (sortedFrom (comesFirst w) p) = true ↔ q < p := by
    intro q
    rcases lt_trichotomy q p with h | h | h
    · refine iff_of_true ?_ h
      rcases hT.total _ _ (fun e => h.ne (sortedFrom_injective _ e)) with h' | h'
      · exact h'
      · rw [hlt q p h] at h'
        exact absurd h' (by decide)
    · rw [h, hT.irrefl]
      simp
    · rw [hlt p q h]
      simp [h.le]
  have e : rank w (sortedFrom (comesFirst w) p)
      = ((univ : Finset (Fin n)).filter fun j => comesFirst w j (sortedFrom (comesFirst w) p) = true).card := by
    unfold rank comesFirst
    congr 1
    ext j
    simp
  rw [e, ← Fin.card_Iio p]
  refine (card_bij (fun q _ => sortedFrom (comesFirst w) q) (fun q hq => ?_) (fun a _ b _ h => sortedFrom_injective _ h)
    (fun j hj => ?_)).symm
  · rw [mem_Iio] at hq
    exact mem_filter.2 ⟨mem_univ _, (hiff q).2 hq⟩
  · obtain ⟨q, rfl⟩ := sortedFrom_surjective (comesFirst w) j
    exact ⟨q, mem_Iio.2 ((hiff q).1 (mem_filter.1 hj).2), rfl⟩

/-- Different entries have different ranks. -/
theorem rank_injective : Function.Injective (rank w) := by
  intro i j h
  obtain ⟨p, rfl⟩ := sortedFrom_surjective (greater w) i
  obtain ⟨q, rfl⟩ := sortedFrom_surjective (greater w) j
  rw [rank_sortedFrom, rank_sortedFrom] at h
  rw [Fin.ext h]

/-- The last coordinate of a rank-3 index replaced. -/
theorem along_ix3 {A B m : ℕ} (a : Fin A) (b : Fin B) (q r : Fin m) (h : 2 < 3) :
    Shape.Idx.along (s := ⟨3, ![A, B, m]⟩) (ix3 a b q) ⟨2, h⟩ r = ix3 a b r := by
  unfold Shape.Idx.along
  funext d
  match d with
  | ⟨0, _⟩ => rfl
  | ⟨1, _⟩ => rfl
  | ⟨2, _⟩ => exact Function.update_self _ _ _

/-- The total order's bit, read as a truth value. -/
theorem gt_bit (x y : EReal) : (FloatOps.cmpfTotal (F := Ideal) (φ := .f32) .gt x y == 1#1) = decide (y < x) := by
  show (BitVec.ofBool (decide (y < x)) == 1#1) = decide (y < x)
  cases decide (y < x) <;> rfl

/-- A stable sort of two operands along the last of three axes, greater first on the first operand: at position `p`
    stand the elements of the position sorted there. -/
theorem sort2_apply {A B m : ℕ} (x : (⟨3, ![A, B, m]⟩ : Shape).Idx → EReal) (y : IVec (⟨3, ![A, B, m]⟩ : Shape) 32)
    (a : Fin A) (b : Fin B) (p : Fin m) :
    (Host.sort2 (⟨3, ![A, B, m]⟩ : Shape) 2 (fun l r => FloatOps.cmpfTotal (F := Ideal) (φ := .f32) .gt l.1 r.1) x y).1 (ix3 a b p)
        = x (ix3 a b (sortedFrom (greater fun j => x (ix3 a b j)) p))
      ∧ (Host.sort2 (⟨3, ![A, B, m]⟩ : Shape) 2 (fun l r => FloatOps.cmpfTotal (F := Ideal) (φ := .f32) .gt l.1 r.1) x y).2 (ix3 a b p)
        = y (ix3 a b (sortedFrom (greater fun j => x (ix3 a b j)) p)) := by
  have h3 : 2 < (⟨3, ![A, B, m]⟩ : Shape).rank := (by decide : 2 < 3)
  have hg : (fun k k' : Fin m => FloatOps.cmpfTotal (F := Ideal) (φ := .f32) .gt
      (x (Shape.Idx.along (s := ⟨3, ![A, B, m]⟩) (ix3 a b p) ⟨2, h3⟩ k)) (x (Shape.Idx.along (s := ⟨3, ![A, B, m]⟩) (ix3 a b p) ⟨2, h3⟩ k')) == 1#1)
      = greater fun j => x (ix3 a b j) := by
    funext k k'
    rw [along_ix3, along_ix3, gt_bit]
    rfl
  unfold Host.sort2
  rw [dif_pos h3]
  refine ⟨?_, ?_⟩
  · refine Eq.trans (congrArg (fun R : Fin m → Fin m → Bool =>
      x (Shape.Idx.along (s := ⟨3, ![A, B, m]⟩) (ix3 a b p) ⟨2, h3⟩ (sortedFrom (n := m) R p))) hg) ?_
    exact congrArg x (along_ix3 _ _ _ _ _)
  · refine Eq.trans (congrArg (fun R : Fin m → Fin m → Bool =>
      y (Shape.Idx.along (s := ⟨3, ![A, B, m]⟩) (ix3 a b p) ⟨2, h3⟩ (sortedFrom (n := m) R p))) hg) ?_
    exact congrArg y (along_ix3 _ _ _ _ _)

/-- `top_k` along the last of three axes: at position `p` of each fiber stand the entry of rank `p` and its position. -/
theorem topK_apply {A B m k : ℕ} (x : (⟨3, ![A, B, m]⟩ : Shape).Idx → EReal)
    (h : (⟨3, ![A, B, m]⟩ : Shape).Slices (fun _ => 0) ⟨3, ![A, B, k]⟩) (a : Fin A) (b : Fin B) (p : Fin k) :
    ∃ i : Fin m, rank (fun j => x (ix3 a b j)) i = p.val
      ∧ (Host.topK (⟨3, ![A, B, k]⟩ : Shape) 2 (FloatOps.cmpfTotal (F := Ideal) (φ := .f32) .gt) x h).1 (ix3 a b p) = x (ix3 a b i)
      ∧ (Host.topK (⟨3, ![A, B, k]⟩ : Shape) 2 (FloatOps.cmpfTotal (F := Ideal) (φ := .f32) .gt) x h).2 (ix3 a b p) = BitVec.ofNat 32 i.val := by
  have hk : k ≤ m := by
    have := h.2 2
    simpa using this
  have hi : (fun c : Fin 3 => (⟨0 + (ix3 a b p (Fin.cast h.1.symm c)).val,
      Nat.lt_of_lt_of_le (Nat.add_lt_add_left (ix3 a b p _).isLt _) (h.2 c)⟩ : Fin ((⟨3, ![A, B, m]⟩ : Shape).size c)))
      = ix3 a b (p.castLE hk) := by
    funext d
    match d with
    | ⟨0, _⟩ => exact Fin.ext (Nat.zero_add _)
    | ⟨1, _⟩ => exact Fin.ext (Nat.zero_add _)
    | ⟨2, _⟩ => exact Fin.ext (Nat.zero_add _)
  have hs : _ ∧ _ := sort2_apply x (fun i => if hd : 2 < (⟨3, ![A, B, m]⟩ : Shape).rank then iotaInDim _ 32 ⟨2, hd⟩ i else 0#32) a b
    (p.castLE hk)
  refine ⟨sortedFrom (greater fun j => x (ix3 a b j)) (p.castLE hk), rank_sortedFrom _ _, ?_, ?_⟩
  · rw [← hs.1]
    exact congrArg (Host.sort2 (⟨3, ![A, B, m]⟩ : Shape) 2 (fun l r => FloatOps.cmpfTotal (F := Ideal) (φ := .f32) .gt l.1 r.1) x _).1 hi
  · refine Eq.trans (b := (if hd : 2 < (⟨3, ![A, B, m]⟩ : Shape).rank then iotaInDim (⟨3, ![A, B, m]⟩ : Shape) 32 ⟨2, hd⟩
      (ix3 a b (sortedFrom (greater fun j => x (ix3 a b j)) (p.castLE hk))) else 0#32)) ?_ rfl
    rw [← hs.2]
    exact congrArg (Host.sort2 (⟨3, ![A, B, m]⟩ : Shape) 2 (fun l r => FloatOps.cmpfTotal (F := Ideal) (φ := .f32) .gt l.1 r.1) x
      (fun i => if hd : 2 < (⟨3, ![A, B, m]⟩ : Shape).rank then iotaInDim (⟨3, ![A, B, m]⟩ : Shape) 32 ⟨2, hd⟩ i else 0#32)).2 hi

end Cert.Proof.Top

end
-- ==== Proof.Ref.lean ====
module

public import proofs.«01_k».proof.Proof.Gen.ReferenceIdeal.Run
public import proofs.«01_k».proof.Proof.Gen.ReferenceIdeal.Read
public import proofs.«01_k».proof.Proof.Layout
public import proofs.«01_k».proof.Proof.Scatter
public import proofs.«01_k».proof.Proof.Top

/-! What the reference computes, entry by entry. -/

@[expose] public section

noncomputable section

namespace Cert.Proof.Ref

open Finset Idealize.ShloMosaic Idealize.ShloMosaic.ValueIdx
open Cert.ReferenceIdeal Cert.ReferenceIdeal.Gen Cert.ReferenceIdeal.Read
open Cert.Proof.Soft Cert.Proof.Layout Cert.Proof.Pick

variable (x : S8x64x2048x12.Idx → EReal)

/-- The reference's features, summed over the times. -/
theorem feat_apply (b : Fin 8) (c : Fin 64) (n : Fin 2048) : val_main_v0 (F := Ideal) x (ix3 b c n) = feat x b c n := by
  rw [val_main_v0_apply]
  show Ideal.ofBits .f32 0x00000000#32 + _ = _
  rw [bits_zero, zero_add]
  exact sum_congr rfl fun t _ => congrArg x (eq_ix4 _)

/-- The reference's scores. -/
theorem logit_apply (b : Fin 8) (n i : Fin 2048) : val_main_v4 (F := Ideal) x (ix3 b n i) = logit x b n i := by
  rw [val_main_v4_apply, val_main_v3_apply, val_main_v1_apply, val_main_v2_apply, val_main_call0_v0_apply]
  show max (Ideal.div _ (Ideal.ofBits .f32 0x41000000#32)) (Ideal.ofBits .f32 0x00000000#32) = _
  rw [bits_zero, bits_eight]
  refine congrArg (fun s => max (Ideal.div s _) 0) (sum_congr rfl fun c _ => ?_)
  rw [eq_ix3 (lidx_main_v1 (ix3 b n i) c), eq_ix3 (ridx_main_v1 (ix3 b n i) c)]
  exact congrArg₂ (· * ·) (feat_apply x b c n) (feat_apply x b c i)

/-- Reducing the last axis of the weights gives one entry a line. -/
theorem red : S8x2048x2048.Reduces [2] S8x2048 := by decide

/-- The reference's maximum along the last axis is each line's greatest entry. -/
theorem top_apply (y : S8x2048x2048.Idx → EReal) (b : Fin 8) (n : Fin 2048) :
    Host.reduce (FloatOps.maximumf (F := Ideal) (φ := .f32)) y (constant S_ .f32 0xFF800000#32) reducesTo_S8x2048x2048_S8x2048_d2 h_S_ (ix2 b n)
      = top fun j => y (ix3 b n j) := by
  rw [hostReduce3 _ y _ _ red]
  show (univ : Finset (Fin 2048)).fold max (Ideal.ofBits .f32 0xFF800000#32) _ = _
  rw [bits_neg_inf]
  rfl

/-- The first softmax, row by row. -/
theorem soft1_apply (b : Fin 8) (n i : Fin 2048) : val_main_v15 (F := Ideal) x (ix3 b n i) = soft (logit x b n) i := by
  have hl : (fun j => val_main_v4 (F := Ideal) x (ix3 b n j)) = logit x b n := funext fun j => logit_apply x b n j
  have h9 : ∀ j, val_main_v9 (F := Ideal) x (ix3 b n j) = top (logit x b n) := fun j => by
    rw [val_main_v9_apply, val_main_v8_apply, val_main_v7_apply, val_main_v6_apply]
    rw [eq_ix2 (idx_main_v8 (idx_main_v9 (ix3 b n j)))]
    show max (Ideal.ofBits .f32 0xFF800000#32) (val_main_v5 (F := Ideal) x (ix2 b n)) = _
    unfold val_main_v5
    rw [bits_neg_inf, max_eq_right bot_le, ← hl]
    exact top_apply _ b n
  have h11 : ∀ j, val_main_v11 (F := Ideal) x (ix3 b n j) = Ideal.exp (logit x b n j - top (logit x b n)) := fun j => by
    rw [val_main_v11_apply, val_main_v10_apply, h9, logit_apply]
    rfl
  rw [val_main_v15_apply, val_main_v14_apply, val_main_v13_apply, val_main_v12_apply, h11]
  show Ideal.div _ (Ideal.ofBits .f32 0x00000000#32 + _) = _
  rw [bits_zero, zero_add]
  refine congrArg (Ideal.div _) (sum_congr rfl fun j _ => ?_)
  rw [eq_ix3 (idx_main_v12 _ _)]
  exact h11 j

/-- The weights of the reference. -/
theorem weights_apply (b : Fin 8) (n i : Fin 2048) : val_main_v26 (F := Ideal) x (ix3 b n i) = weights x b n i := by
  have hl : (fun j => val_main_v15 (F := Ideal) x (ix3 b n j)) = soft (logit x b n) := funext fun j => soft1_apply x b n j
  have h9 : ∀ j, val_main_v20 (F := Ideal) x (ix3 b n j) = top (soft (logit x b n)) := fun j => by
    rw [val_main_v20_apply, val_main_v19_apply, val_main_v18_apply, val_main_v17_apply]
    rw [eq_ix2 (idx_main_v19 (idx_main_v20 (ix3 b n j)))]
    show max (Ideal.ofBits .f32 0xFF800000#32) (val_main_v16 (F := Ideal) x (ix2 b n)) = _
    unfold val_main_v16
    rw [bits_neg_inf, max_eq_right bot_le, ← hl]
    exact top_apply _ b n
  have h11 : ∀ j, val_main_v22 (F := Ideal) x (ix3 b n j) = Ideal.exp (soft (logit x b n) j - top (soft (logit x b n))) := fun j => by
    rw [val_main_v22_apply, val_main_v21_apply, h9, soft1_apply]
    rfl
  rw [val_main_v26_apply, val_main_v25_apply, val_main_v24_apply, val_main_v23_apply, h11]
  show Ideal.div _ (Ideal.ofBits .f32 0x00000000#32 + _) = _
  rw [bits_zero, zero_add]
  refine congrArg (Ideal.div _) (sum_congr rfl fun j _ => ?_)
  rw [eq_ix3 (idx_main_v23 _ _)]
  exact h11 j

/-- The column the reference keeps at position `p` of a line's list. -/
theorem picks (b : Fin 8) (n : Fin 2048) (p : Fin 1638) :
    ∃ i : Fin 2048, rank (weights x b n) i = p.val ∧ val_main_indices (F := Ideal) x (ix3 b n p) = BitVec.ofNat 32 i.val := by
  obtain ⟨i, h1, -, h2⟩ := Top.topK_apply (val_main_v26 (F := Ideal) x) sliceFits_S8x2048x2048_S8x2048x1638 b n p
  rw [show (fun j => val_main_v26 (F := Ideal) x (ix3 b n j)) = weights x b n from funext fun j => weights_apply x b n j] at h1
  exact ⟨i, h1, h2⟩

/-- The column the reference lists at position `p` for a line. -/
def col (b : Fin 8) (n : Fin 2048) (p : Fin 1638) : Fin 2048 := (picks x b n p).choose

/-- The column listed at position `p` has rank `p`. -/
theorem col_rank (b : Fin 8) (n : Fin 2048) (p : Fin 1638) : rank (weights x b n) (col x b n p) = p.val := (picks x b n p).choose_spec.1

/-- The word in the reference's list at position `p` is that column's. -/
theorem col_word (b : Fin 8) (n : Fin 2048) (p : Fin 1638) : val_main_indices (F := Ideal) x (ix3 b n p) = BitVec.ofNat 32 (col x b n p).val :=
  (picks x b n p).choose_spec.2

/-- An index that is not negative is left as it is. -/
theorem wrap (k : ℕ) (hk : k < 2048) (z : BitVec 32) : Scalar.select (IntOp.cmpi .slt (BitVec.ofNat 32 k) 0#32) z (BitVec.ofNat 32 k) = BitVec.ofNat 32 k := by
  have : IntOp.cmpi .slt (BitVec.ofNat 32 k) 0#32 = 0#1 := by
    show BitVec.ofBool (BitVec.slt (BitVec.ofNat 32 k) 0#32) = 0#1
    have e : (BitVec.ofNat 32 k).toInt = k := by
      rw [BitVec.toInt_eq_toNat_of_lt] <;> rw [BitVec.toNat_ofNat] <;> omega
    have : BitVec.slt (BitVec.ofNat 32 k) 0#32 = false := by
      rw [BitVec.slt, e]
      simp
    rw [this]
    rfl
  rw [this]
  rfl

/-- Three tables of one word each, joined along the last axis, read place by place. -/
theorem piece {α : Type} (y0 y1 y2 : S8x2048x1638x1.Idx → α)
    (h : Shape.Concatenates [S8x2048x1638x1, S8x2048x1638x1, S8x2048x1638x1] S8x2048x1638x3 3) (a : Fin 8) (b : Fin 2048) (p : Fin 1638) :
    concatenate S8x2048x1638x3 3 [⟨S8x2048x1638x1, y0⟩, ⟨S8x2048x1638x1, y1⟩, ⟨S8x2048x1638x1, y2⟩] h (ix4 a b p 0) = y0 (ix4 a b p 0) ∧
    concatenate S8x2048x1638x3 3 [⟨S8x2048x1638x1, y0⟩, ⟨S8x2048x1638x1, y1⟩, ⟨S8x2048x1638x1, y2⟩] h (ix4 a b p 1) = y1 (ix4 a b p 0) ∧
    concatenate S8x2048x1638x3 3 [⟨S8x2048x1638x1, y0⟩, ⟨S8x2048x1638x1, y1⟩, ⟨S8x2048x1638x1, y2⟩] h (ix4 a b p 2) = y2 (ix4 a b p 0) := by
  have hz : ∀ (q : Fin 3) (z : Fin S8x2048x1638x1.rank), z.cast rfl ≠ (3 : Fin S8x2048x1638x3.rank) →
      ((ix4 a b p (0 : Fin 1) : S8x2048x1638x1.Idx) z).val = ((ix4 a b p q : S8x2048x1638x3.Idx) (z.cast rfl)).val := by
    intro q z hz
    match z with
    | ⟨0, _⟩ => rfl
    | ⟨1, _⟩ => rfl
    | ⟨2, _⟩ => rfl
    | ⟨3, _⟩ => exact absurd rfl hz
  let xs : List ((s : Shape) × (s.Idx → α)) := [⟨S8x2048x1638x1, y0⟩, ⟨S8x2048x1638x1, y1⟩, ⟨S8x2048x1638x1, y2⟩]
  exact ⟨concatenate_apply_piece 3 xs h (ix4 a b p 0) 0 (by decide : 0 < 3) S8x2048x1638x1 y0 rfl rfl 0 rfl (ix4 a b p 0) (hz 0) rfl,
    concatenate_apply_piece 3 xs h (ix4 a b p 1) 1 (by decide : 1 < 3) S8x2048x1638x1 y1 rfl rfl 1 rfl (ix4 a b p 0) (hz 1) rfl,
    concatenate_apply_piece 3 xs h (ix4 a b p 2) 2 (by decide : 2 < 3) S8x2048x1638x1 y2 rfl rfl 2 rfl (ix4 a b p 0) (hz 2) rfl⟩

/-- The first word of a scatter position is the batch. -/
theorem word0 (a : Fin 8) (b : Fin 2048) (p : Fin 1638) : val_main_v52 (F := Ideal) x (ix4 a b p 0) = BitVec.ofNat 32 a.val := by
  have h : val_main_v52 (F := Ideal) x (ix4 a b p 0) = val_main_v49 (F := Ideal) (ix4 a b p 0) := by
    unfold val_main_v52
    exact (piece _ _ _ _ a b p).1
  rw [h, val_main_v49_apply, val_main_v47_apply, val_main_v36_apply, val_main_v33_apply, val_main_v28_apply, val_main_v27_apply]
  exact wrap _ (by have := a.isLt; show a.val < 2048; omega) _

/-- The second word of a scatter position is the node. -/
theorem word1 (a : Fin 8) (b : Fin 2048) (p : Fin 1638) : val_main_v52 (F := Ideal) x (ix4 a b p 1) = BitVec.ofNat 32 b.val := by
  have h : val_main_v52 (F := Ideal) x (ix4 a b p 1) = val_main_v50 (F := Ideal) (ix4 a b p 0) := by
    unfold val_main_v52
    exact (piece _ _ _ _ a b p).2.1
  rw [h, val_main_v50_apply, val_main_v48_apply, val_main_v41_apply, val_main_v38_apply, val_main_v30_apply, val_main_v29_apply]
  exact wrap _ b.isLt _

/-- The third word of a scatter position is the listed column. -/
theorem word2 (a : Fin 8) (b : Fin 2048) (p : Fin 1638) : val_main_v52 (F := Ideal) x (ix4 a b p 2) = BitVec.ofNat 32 (col x a b p).val := by
  have h : val_main_v52 (F := Ideal) x (ix4 a b p 2) = val_main_v51 (F := Ideal) x (ix4 a b p 0) := by
    unfold val_main_v52
    exact (piece _ _ _ _ a b p).2.2
  rw [h, val_main_v51_apply, val_main_v46_apply, val_main_v43_apply, eq_ix3 (idx_main_v51 (ix4 a b p 0))]
  show Scalar.select (IntOp.cmpi .slt (val_main_indices (F := Ideal) x (ix3 a b p)) 0#32) _ (val_main_indices (F := Ideal) x (ix3 a b p)) = _
  rw [col_word]
  exact wrap _ (col x a b p).isLt _

/-- The reference's result: a weight is kept when fewer than 1638 of its line come before it in descending order, and is zero otherwise. -/
theorem result_apply (b : Fin 8) (n i : Fin 2048) : val_main_v55 (F := Ideal) x (ix3 b n i) = kept (weights x b n) 1638 i := by
  rw [val_main_v55_apply, weights_apply]
  show weights x b n i * val_main_v54 (F := Ideal) x (ix3 b n i) = _
  have hm : val_main_v54 (F := Ideal) x (ix3 b n i) = if rank (weights x b n) i < 1638 then 1 else 0 := by
    unfold val_main_v54
    rw [Scatter.mask_apply (val_main_v31 (F := Ideal)) (val_main_v53 (F := Ideal)) (Ideal.ofBits .f32 0x3F800000#32) (fun k => val_main_v53_apply k)
      (val_main_v52 (F := Ideal) x) (col x) (word0 x) (word1 x) (word2 x) b n i]
    rw [val_main_v31_apply]
    show (if _ then Ideal.ofBits .f32 0x3F800000#32 else Ideal.ofBits .f32 0x00000000#32) = _
    rw [bits_one, bits_zero]
    refine if_congr ?_ rfl rfl
    constructor
    · rintro ⟨p, rfl⟩
      rw [col_rank]
      exact p.isLt
    · intro h
      exact ⟨⟨_, h⟩, Top.rank_injective _ (col_rank x b n ⟨_, h⟩)⟩
  rw [hm]
  unfold kept
  by_cases h : rank (weights x b n) i < 1638
  · rw [if_pos h, if_pos h, mul_one]
  · rw [if_neg h, if_neg h, mul_zero]

end Cert.Proof.Ref

end
-- ==== Proof.Count.lean ====
module

public import proofs.«01_k».proof.Proof.Layout
public import proofs.«01_k».proof.Proof.Pick
public import Idealize.ShloMosaic.Lib.IndicatorCount
public import Idealize.ShloMosaic.Lib.WordCmp

/-! Sums of comparison bits as counts, and comparisons of the counts. -/

@[expose] public section

noncomputable section

namespace Cert.Proof.Count

open Finset Idealize.ShloMosaic
open Cert.Proof.Pick

variable {n : ℕ} (w : Fin n → EReal) (t : EReal)

/-- The bit of a proposition is one just where the proposition holds. -/
theorem bit_iff (P : Prop) [Decidable P] : BitVec.ofBool (decide P) = 1#1 ↔ P := WordCmp.ofBool_decide_eq_one_iff P

/-- Summing the bits "above `t`" gives how many entries are above `t`. -/
theorem sum_above : (univ : Finset (Fin n)).fold IntOp.addi 0#32 (fun k => (Ideal.cmp .ogt (w k) t).setWidth 32) = BitVec.ofNat 32 (above w t) := by
  rw [IndicatorCount.fold_addi_setWidth_eq_card]
  unfold above
  refine congrArg (fun s : Finset (Fin n) => BitVec.ofNat 32 s.card) (filter_congr fun k _ => ?_)
  exact bit_iff (t < w k)

/-- Summing the bits "at least `t`" gives how many entries are at least `t`. -/
theorem sum_atLeast : (univ : Finset (Fin n)).fold IntOp.addi 0#32 (fun k => (Ideal.cmp .oge (w k) t).setWidth 32) = BitVec.ofNat 32 (atLeast w t) := by
  rw [IndicatorCount.fold_addi_setWidth_eq_card]
  unfold atLeast
  refine congrArg (fun s : Finset (Fin n) => BitVec.ofNat 32 s.card) (filter_congr fun k _ => ?_)
  exact bit_iff (t ≤ w k)

/-- A small number's word, read with its sign, is that number. -/
theorem toInt_small {a : ℕ} (h : a ≤ 4096) : (BitVec.ofNat 32 a).toInt = (a : Int) :=
  WordCmp.toInt_ofNat_of_lt (by norm_num; omega)

/-- Of small numbers' words, the signed "less than" is that of the numbers. -/
theorem slt_iff {a b : ℕ} (ha : a ≤ 4096) (hb : b ≤ 4096) : IntOp.cmpi .slt (BitVec.ofNat 32 a) (BitVec.ofNat 32 b) = 1#1 ↔ a < b := by
  rw [WordCmp.cmpi_slt_eq, toInt_small ha, toInt_small hb, bit_iff]
  omega

/-- Of small numbers' words, the signed "at least" is that of the numbers. -/
theorem sge_iff {a b : ℕ} (ha : a ≤ 4096) (hb : b ≤ 4096) : IntOp.cmpi .sge (BitVec.ofNat 32 a) (BitVec.ofNat 32 b) = 1#1 ↔ b ≤ a := by
  rw [WordCmp.cmpi_sge_eq, toInt_small ha, toInt_small hb, bit_iff]
  omega

end Cert.Proof.Count

end
-- ==== Proof.Rows.lean ====
module

public import proofs.«01_k».proof.Proof.Body
public import proofs.«01_k».proof.Proof.Count
public import Idealize.ShloMosaic.Lib.Pipeline.Value
public import Idealize.ShloMosaic.Lib.ValueLayout

/-! What one block computes, up to its weights: every operation along a row of the block, read at a row. -/

@[expose] public section

noncomputable section

namespace Cert.Proof.Rows

open Finset Idealize.ShloMosaic Idealize.ShloMosaic.ValueIdx
open Cert.KernelIdeal Cert.KernelIdeal.Gen
open Cert.Proof.Soft Cert.Proof.Layout Cert.Proof.Pick

/-- A column of one entry per row, made from a vector. -/
theorem col_apply {α : Type} (v : S1024.Idx → α) (y : Fin 1024) :
    shapeCast S1024x1 v shapeCasts_S1024_S1024x1 (ix2 y (0 : Fin 1)) = v (ix1 y) :=
  shapeCast_apply _ _ _ _ (by
    rw [Shape.rowMajor_val_two, Shape.rowMajor_val_one]
    show y.val = y.val * 1 + 0
    omega)

/-- A column spread over its rows. -/
theorem spread_apply {α : Type} (v : S1024x1.Idx → α) (y : Fin 1024) (i : Fin 2048) :
    broadcastTo S1024x2048 v broadcasts_S1024x1_S1024x2048 (ix2 y i) = v (ix2 y (0 : Fin 1)) :=
  broadcastTo_apply _ _ _ _ fun a => by
    match a with
    | ⟨0, _⟩ => rfl
    | ⟨1, _⟩ => rfl

/-- The maximum along a row is the row's greatest entry. -/
theorem rowMax_apply (v : FVec Ideal S1024x2048 .f32) (y : Fin 1024) :
    multiReduction .maximumf [1] S1024 v 0xFF800000#32 reduces_S1024x2048_S1024 (.inl rfl) rfl (ix1 y) = top fun j => v (ix2 y j) := by
  refine (multiReduction_maximumf_eq_fold v _ reduces_S1024x2048_S1024 _ _ (ix1 y)).trans ?_
  rw [Shape.Reduces.fold_filter_drop_single]
  show (univ : Finset (Fin 2048)).fold max (Ideal.ofBits .f32 0xFF800000#32) _ = _
  rw [bits_neg_inf]
  exact congrArg (fun g => (univ : Finset (Fin 2048)).fold max ⊥ g) (funext fun k => congrArg v (lift_last2 _ y k))

/-- The minimum along a row is the row's least entry. -/
theorem rowMin_apply (v : FVec Ideal S1024x2048 .f32) (y : Fin 1024) :
    multiReduction .minimumf [1] S1024 v 0x7F800000#32 reduces_S1024x2048_S1024 (.inl rfl) rfl (ix1 y) = bot fun j => v (ix2 y j) := by
  refine (multiReduction_minimumf_eq_fold v _ reduces_S1024x2048_S1024 _ _ (ix1 y)).trans ?_
  rw [Shape.Reduces.fold_filter_drop_single]
  show (univ : Finset (Fin 2048)).fold min (Ideal.ofBits .f32 0x7F800000#32) _ = _
  rw [bits_inf]
  exact congrArg (fun g => (univ : Finset (Fin 2048)).fold min ⊤ g) (funext fun k => congrArg v (lift_last2 _ y k))

/-- The sum along a row is the sum of its entries. -/
theorem rowSum_apply (v : FVec Ideal S1024x2048 .f32) (y : Fin 1024) :
    multiReduction .add [1] S1024 v 0x00000000#32 reduces_S1024x2048_S1024 (.inl rfl) rfl (ix1 y) = ∑ j : Fin 2048, v (ix2 y j) := by
  refine (Ideal.multiReduction_add_single v _ reduces_S1024x2048_S1024 _ _ (ix1 y)).trans ?_
  exact sum_congr rfl fun k _ => congrArg v (lift_last2 _ y k)

/-- The integer sum along a row is the sum of its words. -/
theorem rowCount_apply (v : IVec S1024x2048 32) (y : Fin 1024) :
    multiReductionI .add [1] S1024 v 0#32 reduces_S1024x2048_S1024 rfl (ix1 y) = (univ : Finset (Fin 2048)).fold IntOp.addi 0#32 fun j => v (ix2 y j) := by
  refine (multiReductionI_eq_fold .add v _ reduces_S1024x2048_S1024 _ (ix1 y)).trans ?_
  rw [Shape.Reduces.fold_filter_drop_single]
  exact congrArg (fun g => (univ : Finset (Fin 2048)).fold IntOp.addi 0#32 g) (funext fun k => congrArg v (lift_last2 _ y k))

/-- Softmax along the rows, as the kernel writes it. -/
def softRows (v : FVec Ideal S1024x2048 .f32) : FVec Ideal S1024x2048 .f32 :=
  have e : FVec Ideal S1024x2048 .f32 := exp (subf v (broadcastTo S1024x2048 (shapeCast S1024x1
    (multiReduction .maximumf [1] S1024 v 0xFF800000#32 reduces_S1024x2048_S1024 (.inl rfl) rfl) shapeCasts_S1024_S1024x1) broadcasts_S1024x1_S1024x2048))
  divf e (broadcastTo S1024x2048 (shapeCast S1024x1
    (multiReduction .add [1] S1024 e 0x00000000#32 reduces_S1024x2048_S1024 (.inl rfl) rfl) shapeCasts_S1024_S1024x1) broadcasts_S1024x1_S1024x2048)

/-- Softmax along the rows, entry by entry, is the softmax of the row. -/
theorem softRows_apply (v : FVec Ideal S1024x2048 .f32) (y : Fin 1024) (i : Fin 2048) :
    softRows v (ix2 y i) = soft (fun j => v (ix2 y j)) i := by
  have he : ∀ j : Fin 2048, (exp (subf v (broadcastTo S1024x2048 (shapeCast S1024x1
      (multiReduction .maximumf [1] S1024 v 0xFF800000#32 reduces_S1024x2048_S1024 (.inl rfl) rfl) shapeCasts_S1024_S1024x1) broadcasts_S1024x1_S1024x2048)) :
        FVec Ideal S1024x2048 .f32) (ix2 y j) = Ideal.exp (v (ix2 y j) - top fun j => v (ix2 y j)) := fun j => by
    show Ideal.exp (v (ix2 y j) - broadcastTo S1024x2048 _ _ (ix2 y j)) = _
    rw [spread_apply, col_apply, rowMax_apply]
  unfold softRows
  show Ideal.div _ (broadcastTo S1024x2048 _ _ (ix2 y i)) = _
  rw [spread_apply, col_apply, rowSum_apply, he]
  exact congrArg (Ideal.div _) (sum_congr rfl fun j _ => he j)

/-- The scores of a block. -/
def scores (l : FVec Ideal S64x1024 .f32) (s : FVec Ideal S64x2048 .f32) : FVec Ideal S1024x2048 .f32 :=
  maximumf (matmul dot_S64x1024_S64x2048_S1024x2048_0_0_1_1_n_n none l s (constant S1024x2048 .f32 0x00000000#32))
    (broadcast S1024x2048 (Scalar.ofBits .f32 0x00000000#32 : Ideal .f32))

/-- The weights of a block are its scores put through softmax twice. -/
theorem pay13_eq (l : FVec Ideal S64x1024 .f32) (s : FVec Ideal S64x2048 .f32) : k0_pay13 (F := Ideal) l s = softRows (softRows (scores l s)) := rfl

/-- The dimensions of the scores' product. -/
abbrev dotS : DotDims S64x1024 S64x2048 S1024x2048 := dot_S64x1024_S64x2048_S1024x2048_0_0_1_1_n_n

/-- The scores of a block, entry by entry: the channels' inner product, cut at zero. -/
theorem scores_apply (l : FVec Ideal S64x1024 .f32) (s : FVec Ideal S64x2048 .f32) (y : Fin 1024) (i : Fin 2048) :
    scores l s (ix2 y i) = max (∑ c : Fin 64, l (ix2 c y) * s (ix2 c i)) 0 := by
  unfold scores
  show max (Ideal.matmul dotS l s (fun _ => Ideal.ofBits .f32 0x00000000#32) (ix2 y i)) (Ideal.ofBits .f32 0x00000000#32) = _
  unfold Ideal.matmul
  rw [bits_zero, zero_add, ← Equiv.sum_comp (contrEquiv1 dotS 64 rfl rfl).symm]
  refine congrArg (max · 0) (sum_congr rfl fun c _ => ?_)
  have hc := contrEquiv1_symm_val dotS 64 rfl rfl c
  generalize (contrEquiv1 dotS 64 rfl rfl).symm c = q at hc
  have e1 : dotS.lhsIdx (ix2 y i) q = ix2 c y := by
    funext a
    match a with
    | ⟨0, _⟩ => exact Fin.ext ((dotS.lhsIdx_val_of_single rfl (ix2 y i) q).trans hc)
    | ⟨1, _⟩ => rfl
  have e2 : dotS.rhsIdx (ix2 y i) q = ix2 c i := by
    funext a
    match a with
    | ⟨0, _⟩ => exact Fin.ext ((dotS.rhsIdx_val_of_single rfl (ix2 y i) q).trans hc)
    | ⟨1, _⟩ => rfl
  rw [e1, e2]

/-- The weights of a block: its scores put through softmax twice, row by row. -/
theorem pay13_apply (l : FVec Ideal S64x1024 .f32) (s : FVec Ideal S64x2048 .f32) (y : Fin 1024) (i : Fin 2048) :
    k0_pay13 (F := Ideal) l s (ix2 y i) = wts (fun j => max (∑ c : Fin 64, l (ix2 c y) * s (ix2 c j)) 0) i := by
  rw [pay13_eq, softRows_apply]
  unfold wts
  refine congrArg (fun r => soft r i) (funext fun j => ?_)
  rw [softRows_apply]
  exact congrArg (fun r => soft r j) (funext fun j => scores_apply l s y j)

end Cert.Proof.Rows

end
-- ==== Proof.Branch.lean ====
module

public import proofs.«01_k».proof.Proof.Rows
public import proofs.«01_k».proof.Proof.Search
public import Idealize.ShloMosaic.Lib.Exec.Context

/-! What the branch leaves at each row of a block: a threshold that at most 1638 weights of the row are above and at
    least 1638 reach, and how many are above it. -/

@[expose] public section

set_option maxRecDepth 16384

noncomputable section

namespace Cert.Proof.Branch

open Finset Idealize.ShloMosaic Idealize.ShloMosaic.ValueIdx
open Cert.KernelIdeal Cert.KernelIdeal.Gen
open Cert.Proof.Soft Cert.Proof.Layout Cert.Proof.Pick Cert.Proof.Rows Cert.Proof.Count Cert.Proof.Search Cert.Proof.Body

/-- Row `y` of a block. -/
def row (W : FVec Ideal S1024x2048 .f32) (y : Fin 1024) (j : Fin 2048) : EReal := W (ix2 y j)

/-! ## The payloads, as equations between whole arrays -/

/-- How many weights are above a column of thresholds, row by row. -/
def countAbove (W : FVec Ideal S1024x2048 .f32) (v : FVec Ideal S1024x1 .f32) : IVec S1024x1 32 :=
  shapeCast S1024x1 (multiReductionI .add [1] S1024
    (extui 32 (cmpf .ogt W (broadcastTo S1024x2048 v broadcasts_S1024x1_S1024x2048)) natLt_1_32) 0#32 reduces_S1024x2048_S1024 rfl)
    shapeCasts_S1024_S1024x1

/-- How many weights reach a column of thresholds, row by row. -/
def countAtLeast (W : FVec Ideal S1024x2048 .f32) (v : FVec Ideal S1024x1 .f32) : IVec S1024x1 32 :=
  shapeCast S1024x1 (multiReductionI .add [1] S1024
    (extui 32 (cmpf .oge W (broadcastTo S1024x2048 v broadcasts_S1024x1_S1024x2048)) natLt_1_32) 0#32 reduces_S1024x2048_S1024 rfl)
    shapeCasts_S1024_S1024x1

/-- The flag the branch reads is the greatest entry of a column. -/
theorem pay1_eq (v : FVec Ideal S1024x1 .f32) : k0_pay1 (F := Ideal) v = extractAt ![0, 0, 0] (shapeCast S1x1x1
    (multiReduction .maximumf [1, 2] S1 (shapeCast S1x1024x1 v shapeCasts_S1024x1_S1x1024x1) 0xFF800000#32 reduces_S1x1024x1_S1 (.inl rfl) rfl)
    shapeCasts_S1_S1x1x1) inpos_S1x1x1_p0_0_0 := rfl

/-- The test of a step of the search: whether at least 1638 weights reach the middle word's float. -/
theorem pay5_eq (W : FVec Ideal S1024x2048 .f32) (lo hi : IVec S1024x1 32) :
    k0_pay5 (F := Ideal) W lo hi = cmpi .sge (countAtLeast W (bitcastToFloat .f32 (k0_pay4 lo hi))) (broadcast S1024x1 1638#32) := rfl

/-- The middle word of a step is half the sum of the ends. -/
theorem pay4_eq (lo hi : IVec S1024x1 32) : k0_pay4 lo hi = shrsi (addi lo hi) (broadcast S1024x1 1#32) := rfl

/-- The new lower end of a step: the middle where the test holds, the old one elsewhere. -/
theorem pay6_eq (W : FVec Ideal S1024x2048 .f32) (lo hi : IVec S1024x1 32) : k0_pay6 (F := Ideal) W lo hi = select (k0_pay5 (F := Ideal) W lo hi) (k0_pay4 lo hi) lo := rfl

/-- The new upper end of a step: the old one where the test holds, the middle elsewhere. -/
theorem pay7_eq (W : FVec Ideal S1024x2048 .f32) (lo hi : IVec S1024x1 32) : k0_pay7 (F := Ideal) W lo hi = select (k0_pay5 (F := Ideal) W lo hi) hi (k0_pay4 lo hi) := rfl

/-- The count after the search: how many weights are above the found threshold. -/
theorem pay9_eq (W : FVec Ideal S1024x2048 .f32) (v : IVec S1024x1 32) : k0_pay9 (F := Ideal) W v = countAbove W (k0_pay8 (F := Ideal) v) := rfl

/-- The threshold without a search is each row's least weight. -/
theorem pay14_eq (l : FVec Ideal S64x1024 .f32) (s : FVec Ideal S64x2048 .f32) : k0_pay14 (F := Ideal) l s = shapeCast S1024x1
    (multiReduction .minimumf [1] S1024 (k0_pay13 (F := Ideal) l s) 0x7F800000#32 reduces_S1024x2048_S1024 (.inl rfl) rfl) shapeCasts_S1024_S1024x1 := rfl

/-- The count without a search: how many weights are above the row's least. -/
theorem pay15_eq (l : FVec Ideal S64x1024 .f32) (s : FVec Ideal S64x2048 .f32) :
    k0_pay15 (F := Ideal) l s = countAbove (k0_pay13 (F := Ideal) l s) (k0_pay14 (F := Ideal) l s) := rfl

/-- The column the flag is taken from: a one in the rows with at least 1638 weights above their least, a zero elsewhere. -/
theorem pay16_eq (l : FVec Ideal S64x1024 .f32) (s : FVec Ideal S64x2048 .f32) :
    k0_pay16 (F := Ideal) l s = select (cmpi .sge (k0_pay15 (F := Ideal) l s) (broadcast S1024x1 1638#32))
      (broadcast S1024x1 (Scalar.ofBits .f32 0x3F800000#32 : Ideal .f32)) (broadcast S1024x1 (Scalar.ofBits .f32 0x00000000#32 : Ideal .f32)) := rfl

/-! ## The payloads at a row -/

/-- The count of the weights above a column of thresholds, at a row. -/
theorem countAbove_apply (W : FVec Ideal S1024x2048 .f32) (v : FVec Ideal S1024x1 .f32) (y : Fin 1024) :
    countAbove W v (ix2 y (0 : Fin 1)) = BitVec.ofNat 32 (above (row W y) (v (ix2 y (0 : Fin 1)))) := by
  rw [countAbove, col_apply, rowCount_apply, ← sum_above]
  refine congrArg (fun g => (univ : Finset (Fin 2048)).fold IntOp.addi 0#32 g) (funext fun j => ?_)
  show (Ideal.cmp .ogt (W (ix2 y j)) (broadcastTo S1024x2048 v _ (ix2 y j))).setWidth 32 = _
  rw [spread_apply]
  rfl

/-- The count of the weights that reach a column of thresholds, at a row. -/
theorem countAtLeast_apply (W : FVec Ideal S1024x2048 .f32) (v : FVec Ideal S1024x1 .f32) (y : Fin 1024) :
    countAtLeast W v (ix2 y (0 : Fin 1)) = BitVec.ofNat 32 (atLeast (row W y) (v (ix2 y (0 : Fin 1)))) := by
  rw [countAtLeast, col_apply, rowCount_apply, ← sum_atLeast]
  refine congrArg (fun g => (univ : Finset (Fin 2048)).fold IntOp.addi 0#32 g) (funext fun j => ?_)
  show (Ideal.cmp .oge (W (ix2 y j)) (broadcastTo S1024x2048 v _ (ix2 y j))).setWidth 32 = _
  rw [spread_apply]
  rfl

/-- The least weight of a row. -/
theorem pay14_apply (l : FVec Ideal S64x1024 .f32) (s : FVec Ideal S64x2048 .f32) (y : Fin 1024) :
    k0_pay14 (F := Ideal) l s (ix2 y (0 : Fin 1)) = bot (row (k0_pay13 (F := Ideal) l s) y) := by
  rw [pay14_eq, col_apply, rowMin_apply]
  rfl

/-- How many weights of a row are above its least. -/
theorem pay15_apply (l : FVec Ideal S64x1024 .f32) (s : FVec Ideal S64x2048 .f32) (y : Fin 1024) :
    k0_pay15 (F := Ideal) l s (ix2 y (0 : Fin 1)) = BitVec.ofNat 32 (above (row (k0_pay13 (F := Ideal) l s) y) (bot (row (k0_pay13 (F := Ideal) l s) y))) := by
  rw [pay15_eq, countAbove_apply, pay14_apply]

/-- The largest of a column of one entry per row is above zero just where some entry is. -/
theorem pay1_pos (v : FVec Ideal S1024x1 .f32) : 0 < k0_pay1 (F := Ideal) v ↔ ∃ y : Fin 1024, 0 < v (ix2 y (0 : Fin 1)) := by
  have hs : ∀ y : Fin 1024, shapeCast S1x1024x1 v shapeCasts_S1024x1_S1x1024x1 (ix3 (0 : Fin 1) y (0 : Fin 1)) = v (ix2 y (0 : Fin 1)) := fun y =>
    shapeCast_apply _ _ _ _ (by
      rw [Shape.rowMajor_val_two, Shape.rowMajor_val_three]
      show y.val * 1 + 0 = (0 * 1024 + y.val) * 1 + 0
      omega)
  have hi : ∀ i : S1x1024x1.Idx, ∃ y : Fin 1024, i = ix3 (0 : Fin 1) y (0 : Fin 1) := fun i => ⟨i 1, by
    funext a
    match a with
    | ⟨0, _⟩ => exact Subsingleton.elim (α := Fin 1) _ _
    | ⟨1, _⟩ => rfl
    | ⟨2, _⟩ => exact Subsingleton.elim (α := Fin 1) _ _⟩
  have hu : ∀ i j : S1.Idx, i = j := fun i j => by
    funext a
    match a with
    | ⟨0, _⟩ => exact Subsingleton.elim (α := Fin 1) _ _
  have h0 : k0_pay1 (F := Ideal) v = multiReduction .maximumf [1, 2] S1 (shapeCast S1x1024x1 v shapeCasts_S1024x1_S1x1024x1) 0xFF800000#32
      reduces_S1x1024x1_S1 (.inl rfl) rfl (ix1 (0 : Fin 1)) := by
    rw [pay1_eq]
    unfold extractAt
    exact shapeCast_apply _ _ _ _ rfl
  rw [h0]
  refine (iff_of_eq (congrArg (0 < ·) (multiReduction_maximumf_eq_fold (shapeCast S1x1024x1 v shapeCasts_S1024x1_S1x1024x1) _ reduces_S1x1024x1_S1 _ _ (ix1 (0 : Fin 1))))).trans ?_
  refine (Finset.lt_fold_max (β := EReal) (c := 0)).trans ?_
  constructor
  · rintro (h | ⟨i, -, h⟩)
    · exact absurd (show (0 : EReal) < Ideal.ofBits .f32 0xFF800000#32 from h) (by rw [bits_neg_inf]; exact not_lt_bot)
    · obtain ⟨y, rfl⟩ := hi i
      rw [hs] at h
      exact ⟨y, h⟩
  · rintro ⟨y, h⟩
    refine .inr ⟨ix3 (0 : Fin 1) y (0 : Fin 1), mem_filter.mpr ⟨mem_univ _, hu _ _⟩, ?_⟩
    rw [hs]
    exact h

/-- The flag of a row. -/
theorem pay16_pos (l : FVec Ideal S64x1024 .f32) (s : FVec Ideal S64x2048 .f32) (y : Fin 1024) :
    0 < k0_pay16 (F := Ideal) l s (ix2 y (0 : Fin 1)) ↔ 1638 ≤ above (row (k0_pay13 (F := Ideal) l s) y) (bot (row (k0_pay13 (F := Ideal) l s) y)) := by
  have hle := above_le (row (k0_pay13 (F := Ideal) l s) y) (bot (row (k0_pay13 (F := Ideal) l s) y))
  rw [← sge_iff (by omega) (by norm_num), ← pay15_apply]
  rw [pay16_eq]
  show 0 < Scalar.select (IntOp.cmpi .sge (k0_pay15 (F := Ideal) l s (ix2 y (0 : Fin 1))) 1638#32) (Ideal.ofBits .f32 0x3F800000#32) (Ideal.ofBits .f32 0x00000000#32) ↔ _
  generalize IntOp.cmpi .sge (k0_pay15 (F := Ideal) l s (ix2 y (0 : Fin 1))) 1638#32 = b
  rw [bits_one, bits_zero]
  have hb : b = 0#1 ∨ b = 1#1 := by revert b; decide
  rcases hb with rfl | rfl
  · exact iff_of_false (lt_irrefl (0 : EReal)) (by decide)
  · exact iff_of_true (show (0 : EReal) < 1 from zero_lt_one) rfl

/-- The branch searches just where some row has 1638 weights above its least. -/
theorem slow_iff (l : FVec Ideal S64x1024 .f32) (s : FVec Ideal S64x2048 .f32) :
    slow (F := Ideal) l s = 1#1 ↔ ∃ y : Fin 1024, 1638 ≤ above (row (k0_pay13 (F := Ideal) l s) y) (bot (row (k0_pay13 (F := Ideal) l s) y)) := by
  have hw : ∀ b : BitVec 1, Scalar.cmpi .ne (Scalar.extui b : BitVec 32) 0#32 = 1#1 ↔ b = 1#1 := by decide
  have hc : ∀ a b : Ideal .f32, Scalar.cmpf .ogt a b = Ideal.cmp .ogt a b := fun _ _ => rfl
  have hz : (FloatOps.ofBits .f32 0x00000000#32 : Ideal .f32) = (0 : EReal) := bits_zero
  unfold slow
  rw [hc, hw, hz]
  refine (bit_iff (0 < k0_pay1 (F := Ideal) (k0_pay16 (F := Ideal) l s))).trans ?_
  rw [pay1_pos]
  exact exists_congr fun y => pay16_pos l s y

/-- The test of the search at a row. -/
def reach (W : FVec Ideal S1024x2048 .f32) (y : Fin 1024) (b : BitVec 32) : BitVec 1 :=
  IntOp.cmpi .sge (BitVec.ofNat 32 (atLeast (row W y) (Ideal.ofBits .f32 b))) 1638#32

/-- The test at a row holds just where at least 1638 weights of the row reach the word's float. -/
theorem reach_iff (W : FVec Ideal S1024x2048 .f32) (y : Fin 1024) (b : BitVec 32) :
    reach W y b = 1#1 ↔ 1638 ≤ atLeast (row W y) (Ideal.ofBits .f32 b) := by
  have hle := atLeast_le (row W y) (Ideal.ofBits .f32 b)
  exact sge_iff (by omega) (by norm_num)

/-- The test of a step, read at a row, is that row's test of the middle word. -/
theorem pay5_apply (W : FVec Ideal S1024x2048 .f32) (lo hi : IVec S1024x1 32) (y : Fin 1024) :
    k0_pay5 (F := Ideal) W lo hi (ix2 y (0 : Fin 1)) = reach W y (mid (lo (ix2 y (0 : Fin 1))) (hi (ix2 y (0 : Fin 1)))) := by
  unfold reach
  rw [pay5_eq]
  show IntOp.cmpi .sge (countAtLeast W (bitcastToFloat .f32 (k0_pay4 lo hi)) (ix2 y (0 : Fin 1))) 1638#32 = _
  rw [countAtLeast_apply]
  rfl

/-- A step of the search at a row is the step of one row's search. -/
theorem trip_apply (W : FVec Ideal S1024x2048 .f32) (p : IVec S1024x1 32 × IVec S1024x1 32) (y : Fin 1024) :
    (k0_pay6 (F := Ideal) W p.1 p.2 (ix2 y (0 : Fin 1)), k0_pay7 (F := Ideal) W p.1 p.2 (ix2 y (0 : Fin 1))) =
      step (reach W y) (p.1 (ix2 y (0 : Fin 1)), p.2 (ix2 y (0 : Fin 1))) := by
  unfold step
  rw [pay6_eq, pay7_eq]
  show (Scalar.select (k0_pay5 (F := Ideal) W p.1 p.2 (ix2 y (0 : Fin 1))) (mid (p.1 (ix2 y (0 : Fin 1))) (p.2 (ix2 y (0 : Fin 1)))) (p.1 (ix2 y (0 : Fin 1))),
    Scalar.select (k0_pay5 (F := Ideal) W p.1 p.2 (ix2 y (0 : Fin 1))) (p.2 (ix2 y (0 : Fin 1))) (mid (p.1 (ix2 y (0 : Fin 1))) (p.2 (ix2 y (0 : Fin 1))))) = _
  rw [pay5_apply]

/-- Folding a step that ignores its trip, seen through a reading of the state that turns it into another step. -/
theorem foldl_read {σ τ : Type} (g : σ → σ) (r : σ → τ) (f : τ → τ) (hg : ∀ p, r (g p) = f (r p)) {n : ℕ} (ks : List (Fin n)) :
    ∀ p, r (ks.foldl (fun p _ => g p) p) = f^[ks.length] (r p) := by
  induction ks with
  | nil => intro p; rfl
  | cons k ks ih =>
    intro p
    rw [List.foldl_cons, List.length_cons, Function.iterate_succ_apply, ← hg]
    exact ih (g p)

/-- The search takes thirty steps. -/
theorem trips_eq : k0_t1_loop.trips = 30 := by decide

/-- The search of a block, read at a row, is that row's search. -/
theorem searched_apply (W : FVec Ideal S1024x2048 .f32) (y : Fin 1024) :
    (searched (F := Ideal) W).1 (ix2 y (0 : Fin 1)) = ((step (reach W y))^[30] (0#32, 1065353217#32)).1 := by
  have h := foldl_read (fun p : IVec S1024x1 32 × IVec S1024x1 32 => (k0_pay6 (F := Ideal) W p.1 p.2, k0_pay7 (F := Ideal) W p.1 p.2))
    (fun p => (p.1 (ix2 y (0 : Fin 1)), p.2 (ix2 y (0 : Fin 1)))) (step (reach W y)) (fun p => by dsimp only; exact trip_apply W p y)
    (List.finRange k0_t1_loop.trips) (k0_pay2, k0_pay3)
  have h0 : (((k0_pay2, k0_pay3) : IVec S1024x1 32 × IVec S1024x1 32).1 (ix2 y (0 : Fin 1)), ((k0_pay2, k0_pay3) : IVec S1024x1 32 × IVec S1024x1 32).2 (ix2 y (0 : Fin 1)))
      = (0#32, 1065353217#32) := rfl
  rw [h0, List.length_finRange, trips_eq] at h
  rw [← h]
  unfold searched
  rw [Scf.fold_eq, trips_eq]

/-- The branch's threshold has at most 1638 weights of the row above it and at least 1638 that reach it, and the count
    that goes with it is of those above; for a block whose rows all have fewer than 1638 weights above their least, or
    are all normal with their 1638-th weight apart from the next. -/
theorem picked_apply (l : FVec Ideal S64x1024 .f32) (s : FVec Ideal S64x2048 .f32)
    (h : (∀ y, above (row (k0_pay13 (F := Ideal) l s) y) (bot (row (k0_pay13 (F := Ideal) l s) y)) < 1638) ∨
      (∀ y, Normal (row (k0_pay13 (F := Ideal) l s) y) ∧ Apart (row (k0_pay13 (F := Ideal) l s) y) 1638)) (y : Fin 1024) :
    above (row (k0_pay13 (F := Ideal) l s) y) ((picked (F := Ideal) l s).1 (ix2 y (0 : Fin 1))) ≤ 1638 ∧
      1638 ≤ atLeast (row (k0_pay13 (F := Ideal) l s) y) ((picked (F := Ideal) l s).1 (ix2 y (0 : Fin 1))) ∧
      (picked (F := Ideal) l s).2 (ix2 y (0 : Fin 1)) = BitVec.ofNat 32 (above (row (k0_pay13 (F := Ideal) l s) y) ((picked (F := Ideal) l s).1 (ix2 y (0 : Fin 1)))) := by
  by_cases hs : slow (F := Ideal) l s = 1#1
  · have hp : picked (F := Ideal) l s = (k0_pay8 (F := Ideal) (searched (F := Ideal) (k0_pay13 (F := Ideal) l s)).1, k0_pay9 (F := Ideal) (k0_pay13 (F := Ideal) l s) (searched (F := Ideal) (k0_pay13 (F := Ideal) l s)).1) := if_pos hs
    rw [hp]
    have hn : ∀ y, Normal (row (k0_pay13 (F := Ideal) l s) y) ∧ Apart (row (k0_pay13 (F := Ideal) l s) y) 1638 := by
      rcases h with h | h
      · obtain ⟨z, hz⟩ := (slow_iff l s).mp hs
        exact absurd (h z) (by omega)
      · exact h
    have he : k0_pay8 (F := Ideal) (searched (F := Ideal) (k0_pay13 (F := Ideal) l s)).1 (ix2 y (0 : Fin 1)) =
        Ideal.ofBits .f32 ((step (reach (k0_pay13 (F := Ideal) l s) y))^[30] (0#32, 1065353217#32)).1 :=
      congrArg (Ideal.ofBits .f32) (searched_apply _ y)
    have hr := search_row (by norm_num) (by norm_num) (hn y).1 (hn y).2 (reach (k0_pay13 (F := Ideal) l s) y) (fun b _ => reach_iff _ y b)
    rw [← he] at hr
    refine ⟨hr.1, hr.2, ?_⟩
    dsimp only
    rw [pay9_eq, countAbove_apply]
  · have hp : picked (F := Ideal) l s = (k0_pay14 (F := Ideal) l s, k0_pay15 (F := Ideal) l s) := if_neg hs
    rw [hp]
    have hz : above (row (k0_pay13 (F := Ideal) l s) y) (bot (row (k0_pay13 (F := Ideal) l s) y)) < 1638 := by
      by_contra hc
      exact hs ((slow_iff l s).mpr ⟨y, by omega⟩)
    have hb : atLeast (row (k0_pay13 (F := Ideal) l s) y) (bot (row (k0_pay13 (F := Ideal) l s) y)) = 2048 := atLeast_of_le _ fun j => Soft.bot_le _ j
    dsimp only
    refine ⟨?_, ?_, ?_⟩
    · rw [pay14_apply]; omega
    · rw [pay14_apply, hb]; norm_num
    · rw [pay14_apply]; exact pay15_apply l s y

end Cert.Proof.Branch

end
-- ==== Proof.Block.lean ====
module

public import proofs.«01_k».proof.Proof.Branch

/-! What one block stores: the weights of each of its rows, those of the first 1638 ranks kept and the others zero. -/

@[expose] public section

set_option maxRecDepth 16384

noncomputable section

namespace Cert.Proof.Block

open Finset Idealize.ShloMosaic Idealize.ShloMosaic.ValueIdx
open Cert.KernelIdeal Cert.KernelIdeal.Gen
open Cert.Proof.Soft Cert.Proof.Layout Cert.Proof.Pick Cert.Proof.Rows Cert.Proof.Count Cert.Proof.Branch Cert.Proof.Body

/-- A comparison's bit, widened and made a real, is one where it holds and zero elsewhere. -/
theorem bit_real (P : Prop) [Decidable P] :
    (((((BitVec.ofBool (decide P)).setWidth 32 : BitVec 32).toInt : ℝ)) : EReal) = if P then 1 else 0 := by
  by_cases h : P
  · rw [if_pos h, decide_eq_true h]
    have : ((BitVec.ofBool true).setWidth 32 : BitVec 32).toInt = 1 := by decide
    rw [this]; norm_num
  · rw [if_neg h, decide_eq_false h]
    have : ((BitVec.ofBool false).setWidth 32 : BitVec 32).toInt = 0 := by decide
    rw [this]; norm_num

/-- Counting by summing ones over the reals. -/
theorem sum_ones {n : ℕ} (P : Fin n → Prop) [DecidablePred P] : (∑ j, if P j then (1 : EReal) else 0) = (((univ.filter P).card : ℝ) : EReal) := by
  rw [← sum_filter]
  generalize univ.filter P = s
  induction s using Finset.induction_on with
  | empty => simp
  | insert a s ha ih =>
    rw [sum_insert ha, ih, card_insert_of_notMem ha, Nat.cast_add, EReal.coe_add, add_comm]
    norm_num

/-- The dimensions of the product with the triangle. -/
abbrev dotT : DotDims S1024x2048 S2048x2048 S1024x2048 := dot_S1024x2048_S2048x2048_S1024x2048_1_0_0_1_n_n

/-- The product with the triangle, at an entry. -/
theorem tri_apply (l : FVec Ideal S1024x2048 .bf16) (u : FVec Ideal S2048x2048 .bf16) (y : Fin 1024) (i : Fin 2048) :
    (matmul dotT none l u (constant S1024x2048 .f32 0x00000000#32) : FVec Ideal S1024x2048 .f32) (ix2 y i) = ∑ j : Fin 2048, l (ix2 y j) * u (ix2 j i) := by
  show Ideal.matmul dotT l u (fun _ => Ideal.ofBits .f32 0x00000000#32) (ix2 y i) = _
  unfold Ideal.matmul
  rw [bits_zero, zero_add, ← Equiv.sum_comp (contrEquiv1 dotT 2048 rfl rfl).symm]
  refine sum_congr rfl fun c _ => ?_
  have hc := contrEquiv1_symm_val dotT 2048 rfl rfl c
  generalize (contrEquiv1 dotT 2048 rfl rfl).symm c = q at hc
  have e1 : dotT.lhsIdx (ix2 y i) q = ix2 y c := by
    funext a
    match a with
    | ⟨0, _⟩ => rfl
    | ⟨1, _⟩ => exact Fin.ext ((dotT.lhsIdx_val_of_single rfl (ix2 y i) q).trans hc)
  have e2 : dotT.rhsIdx (ix2 y i) q = ix2 c i := by
    funext a
    match a with
    | ⟨0, _⟩ => exact Fin.ext ((dotT.rhsIdx_val_of_single rfl (ix2 y i) q).trans hc)
    | ⟨1, _⟩ => rfl
  rw [e1, e2]

/-- The ties of a block with a column of thresholds, as ones and zeros. -/
def ties (W : FVec Ideal S1024x2048 .f32) (t : FVec Ideal S1024x1 .f32) : FVec Ideal S1024x2048 .bf16 :=
  truncf .bf16 (sitofp .f32 (extui 32 (cmpf .oeq W (broadcastTo S1024x2048 t broadcasts_S1024x1_S1024x2048)) natLt_1_32) : FVec Ideal S1024x2048 .f32) bitsLt_bf16_f32

/-- The ties, entry by entry: a one just where the weight equals the row's threshold. -/
theorem ties_apply (W : FVec Ideal S1024x2048 .f32) (t : FVec Ideal S1024x1 .f32) (y : Fin 1024) (j : Fin 2048) :
    ties W t (ix2 y j) = if row W y j = t (ix2 y (0 : Fin 1)) then 1 else 0 := by
  rw [← bit_real]
  unfold ties
  show ((((Ideal.cmp .oeq (W (ix2 y j)) (broadcastTo S1024x2048 t broadcasts_S1024x1_S1024x2048 (ix2 y j))).setWidth 32 : BitVec 32).toInt : ℝ) : EReal) = _
  rw [spread_apply]
  rfl

/-- How many ties stand before each place, from the triangle of ones. -/
theorem before_apply (W : FVec Ideal S1024x2048 .f32) (t : FVec Ideal S1024x1 .f32) (u : FVec Ideal S2048x2048 .bf16)
    (hu : ∀ j i : Fin 2048, u (ix2 j i) = if j < i then (1 : EReal) else 0) (y : Fin 1024) (i : Fin 2048) :
    (matmul dotT none (ties W t) u (constant S1024x2048 .f32 0x00000000#32) : FVec Ideal S1024x2048 .f32) (ix2 y i) =
      ((tiesBefore (row W y) (t (ix2 y (0 : Fin 1))) i : ℝ) : EReal) := by
  rw [tri_apply]
  unfold tiesBefore
  rw [← sum_ones]
  refine sum_congr rfl fun j _ => ?_
  rw [ties_apply, hu]
  by_cases h1 : row W y j = t (ix2 y (0 : Fin 1)) <;> by_cases h2 : j < i <;> simp [h1, h2]

/-- The entries a block keeps. -/
def keep (W : FVec Ideal S1024x2048 .f32) (t : FVec Ideal S1024x1 .f32) (g : IVec S1024x1 32) (u : FVec Ideal S2048x2048 .bf16) : IVec S1024x2048 1 :=
  ori (cmpf .ogt W (broadcastTo S1024x2048 t broadcasts_S1024x1_S1024x2048))
    (andi (cmpf .oeq W (broadcastTo S1024x2048 t broadcasts_S1024x1_S1024x2048))
      (cmpf .olt (matmul dotT none (ties W t) u (constant S1024x2048 .f32 0x00000000#32) : FVec Ideal S1024x2048 .f32)
        (broadcastTo S1024x2048 (sitofp .f32 (subi (broadcast S1024x1 1638#32) g)) broadcasts_S1024x1_S1024x2048)))

/-- What a block stores: its weights where they are kept, and zero elsewhere. -/
theorem pay10_eq (W : FVec Ideal S1024x2048 .f32) (t : FVec Ideal S1024x1 .f32) (g : IVec S1024x1 32) (u : FVec Ideal S2048x2048 .bf16) :
    k0_pay10 (F := Ideal) W t g u = shapeCast S1x1024x2048 (select (keep W t g (shapeCast S2048x2048 u shapeCasts_S2048x2048_S2048x2048)) W
      (broadcast S1024x2048 (Scalar.ofBits .f32 0x00000000#32 : Ideal .f32))) shapeCasts_S1024x2048_S1x1024x2048 := rfl

/-- How many places are left for ties, as a word. -/
theorem room {a : ℕ} (h : a ≤ 1638) : IntOp.subi 1638#32 (BitVec.ofNat 32 a) = BitVec.ofNat 32 (1638 - a) := by
  apply BitVec.eq_of_toNat_eq
  unfold IntOp.subi
  rw [BitVec.toNat_sub, BitVec.toNat_ofNat, BitVec.toNat_ofNat, BitVec.toNat_ofNat]
  omega

/-- An entry is kept just where it is above the threshold, or at it with room left for it. -/
theorem keep_apply (W : FVec Ideal S1024x2048 .f32) (t : FVec Ideal S1024x1 .f32) (g : IVec S1024x1 32) (u : FVec Ideal S2048x2048 .bf16)
    (hu : ∀ j i : Fin 2048, u (ix2 j i) = if j < i then (1 : EReal) else 0) (y : Fin 1024)
    (h1 : above (row W y) (t (ix2 y (0 : Fin 1))) ≤ 1638)
    (hg : g (ix2 y (0 : Fin 1)) = BitVec.ofNat 32 (above (row W y) (t (ix2 y (0 : Fin 1))))) (i : Fin 2048) :
    keep W t g u (ix2 y i) = 1#1 ↔ (t (ix2 y (0 : Fin 1)) < row W y i ∨
      (row W y i = t (ix2 y (0 : Fin 1)) ∧ tiesBefore (row W y) (t (ix2 y (0 : Fin 1))) i < 1638 - above (row W y) (t (ix2 y (0 : Fin 1))))) := by
  have e : keep W t g u (ix2 y i) = Ideal.cmp .ogt (W (ix2 y i)) (broadcastTo S1024x2048 t broadcasts_S1024x1_S1024x2048 (ix2 y i)) |||
      (Ideal.cmp .oeq (W (ix2 y i)) (broadcastTo S1024x2048 t broadcasts_S1024x1_S1024x2048 (ix2 y i)) &&&
        Ideal.cmp .olt ((matmul dotT none (ties W t) u (constant S1024x2048 .f32 0x00000000#32) : FVec Ideal S1024x2048 .f32) (ix2 y i))
          (broadcastTo S1024x2048 (sitofp .f32 (subi (broadcast S1024x1 1638#32) g) : FVec Ideal S1024x1 .f32) broadcasts_S1024x1_S1024x2048 (ix2 y i))) := rfl
  have er : (sitofp .f32 (subi (broadcast S1024x1 1638#32) g) : FVec Ideal S1024x1 .f32) (ix2 y (0 : Fin 1))
      = (((1638 - above (row W y) (t (ix2 y (0 : Fin 1))) : ℕ) : ℝ) : EReal) := by
    have : (sitofp .f32 (subi (broadcast S1024x1 1638#32) g) : FVec Ideal S1024x1 .f32) (ix2 y (0 : Fin 1))
      = (((IntOp.subi 1638#32 (g (ix2 y (0 : Fin 1)))).toInt : ℝ) : EReal) := rfl
    rw [this, hg, room h1, toInt_small (by omega)]
    norm_cast
  rw [e, spread_apply, spread_apply, before_apply W t u hu, er]
  have ho : ∀ p q : BitVec 1, p ||| q = 1#1 ↔ p = 1#1 ∨ q = 1#1 := by decide
  have ha : ∀ p q : BitVec 1, p &&& q = 1#1 ↔ p = 1#1 ∧ q = 1#1 := by decide
  rw [ho, ha]
  refine or_congr (bit_iff _) (and_congr (bit_iff _) ((bit_iff _).trans ?_))
  rw [EReal.coe_lt_coe_iff, Nat.cast_lt]

/-- A block's stored row. -/
theorem pay10_apply (W : FVec Ideal S1024x2048 .f32) (t : FVec Ideal S1024x1 .f32) (g : IVec S1024x1 32) (u : FVec Ideal S2048x2048 .bf16)
    (hu : ∀ j i : Fin 2048, u (ix2 j i) = if j < i then (1 : EReal) else 0) (y : Fin 1024)
    (h1 : above (row W y) (t (ix2 y (0 : Fin 1))) ≤ 1638) (h2 : 1638 ≤ atLeast (row W y) (t (ix2 y (0 : Fin 1))))
    (hg : g (ix2 y (0 : Fin 1)) = BitVec.ofNat 32 (above (row W y) (t (ix2 y (0 : Fin 1))))) (i : Fin 2048) :
    k0_pay10 (F := Ideal) W t g u (ix3 (0 : Fin 1) y i) = kept (row W y) 1638 i := by
  have hs : shapeCast S2048x2048 u shapeCasts_S2048x2048_S2048x2048 = u := by
    funext j
    exact shapeCast_apply _ _ _ _ rfl
  rw [pay10_eq, hs, shapeCast_ab_1ab_apply]
  have e : select (keep W t g u) W (broadcast S1024x2048 (Scalar.ofBits .f32 0x00000000#32 : Ideal .f32)) (ix2 y i)
      = if keep W t g u (ix2 y i) = 1#1 then row W y i else Ideal.ofBits .f32 0x00000000#32 := rfl
  rw [e, bits_zero]
  unfold kept
  exact if_congr ((keep_apply W t g u hu y h1 hg i).trans (keep_iff _ h1 h2 i)) rfl rfl

/-- What a point stores, at an entry: the row's weights with the first 1638 ranks kept. -/
theorem blockOut_apply (i : grid0.Coords) (a b : FVec Ideal S64x2048 .f32) (u : FVec Ideal S2048x2048 .bf16)
    (hu : ∀ j i : Fin 2048, u (ix2 j i) = if j < i then (1 : EReal) else 0)
    (h : (∀ y, above (row (k0_pay13 (F := Ideal) (rowsAt i a) b) y) (bot (row (k0_pay13 (F := Ideal) (rowsAt i a) b) y)) < 1638) ∨
      (∀ y, Search.Normal (row (k0_pay13 (F := Ideal) (rowsAt i a) b) y) ∧ Search.Apart (row (k0_pay13 (F := Ideal) (rowsAt i a) b) y) 1638))
    (y : Fin 1024) (j : Fin 2048) :
    blockOut (F := Ideal) i a b u (ix3 (0 : Fin 1) y j) = kept (row (k0_pay13 (F := Ideal) (rowsAt i a) b) y) 1638 j := by
  obtain ⟨h1, h2, hg⟩ := picked_apply (rowsAt (F := Ideal) i a) b h y
  exact pay10_apply (k0_pay13 (F := Ideal) (rowsAt i a) b) _ _ u hu y h1 h2 hg j

end Cert.Proof.Block

end
-- ==== Proof.Pre.lean ====
module

public import proofs.«01_k».proof.Pre_separated
public import proofs.«01_k».proof.Proof.Gen.Pre_separated
public import proofs.«01_k».proof.Proof.Ref
public import proofs.«01_k».proof.Proof.Count
public import proofs.«01_k».proof.Proof.Search
public import Idealize.ShloMosaic.Lib.ReduceAll

/-! What the precondition says of a run of 1024 lines. -/

@[expose] public section

noncomputable section

namespace Cert.Proof.Pre

open Finset Idealize.ShloMosaic Idealize.ShloMosaic.ValueIdx
open Cert.Pre_separated Cert.Pre_separated.Facts
open Cert.Proof.Soft Cert.Proof.Layout Cert.Proof.Pick Cert.Proof.Search

/-- Whether fewer than 1638 weights of a line are above its least. -/
def fewer (w : FVec Ideal S8x2048x2048 .f32) : IVec S8x2048 1 :=
  cmpi .slt
    (Host.reduce IntOp.addi
      (extui 32
        (cmpf .ogt w
          (broadcastInDim S8x2048x2048 ![0, 1, 2] bcast_S8x2048x1_S8x2048x2048_0_1_2
            (broadcastInDim S8x2048x1 ![0, 1] bcast_S8x2048_S8x2048x1_0_1
              (Host.reduce FloatOps.minimumf w (constant S_ .f32 0x7F800000#32) reducesTo_S8x2048x2048_S8x2048_d2 h_S_)))) natLt_1_32)
      (constantI S_ 32 0#32) reducesTo_S8x2048x2048_S8x2048_d2 h_S_)
    (broadcastInDim S8x2048 ![] bcast_S_S8x2048 (constantI S_ 32 1638#32))

/-- Whether a line's 1638th weight is above the next by more than one unit in the last place. -/
def gap (w : FVec Ideal S8x2048x2048 .f32) : IVec S8x2048 1 :=
  cmpf .ogt
    (shapeCast S8x2048 (extractStridedSlice S8x2048x1 ![0, 0, 1637]
      (Host.topK S8x2048x1639 2 (FloatOps.cmpfTotal (F := Ideal) (φ := .f32) .gt) w sliceFits_S8x2048x2048_S8x2048x1639).1 slices_S8x2048x1639_S8x2048x1_0_0_1637)
      shapeCasts_S8x2048x1_S8x2048)
    (mulf (φ := .f32)
      (shapeCast S8x2048 (extractStridedSlice S8x2048x1 ![0, 0, 1638]
        (Host.topK S8x2048x1639 2 (FloatOps.cmpfTotal (F := Ideal) (φ := .f32) .gt) w sliceFits_S8x2048x2048_S8x2048x1639).1 slices_S8x2048x1639_S8x2048x1_0_0_1638)
        shapeCasts_S8x2048x1_S8x2048)
      (broadcastInDim S8x2048 ![] bcast_S_S8x2048 (constant S_ .f32 0x3F800001#32)))

/-- The precondition from the weights on. -/
def both (w : FVec Ideal S8x2048x2048 .f32) : IVec S8x2 1 :=
  ori (Host.reduce IntOp.andi (shapeCast S8x2x1024 (fewer w) shapeCasts_S8x2048_S8x2x1024) (constantI S_ 1 1#1) reducesTo_S8x2x1024_S8x2_d2 h_S_)
    (Host.reduce IntOp.andi (shapeCast S8x2x1024 (gap w) shapeCasts_S8x2048_S8x2x1024) (constantI S_ 1 1#1) reducesTo_S8x2x1024_S8x2_d2 h_S_)

/-- The precondition is `both` of the reference's weights. -/
theorem fn_eq (x : FVec Ideal S8x64x2048x12 .f32) : fn (F := Ideal) x = both (Cert.ReferenceIdeal.Read.val_main_v26 (F := Ideal) x) := rfl

/-- Reducing the last axis of the weights gives one entry a line. -/
theorem red : S8x2048x2048.Reduces [2] S8x2048 := by decide
/-- Reducing the last axis of the runs gives one entry a run. -/
theorem redRun : S8x2x1024.Reduces [2] S8x2 := by decide

/-- `fewer` read at a line. -/
theorem fewer_iff (w : FVec Ideal S8x2048x2048 .f32) (b : Fin 8) (n : Fin 2048) :
    fewer w (ix2 b n) = 1#1 ↔ above (fun j => w (ix3 b n j)) (bot fun j => w (ix3 b n j)) < 1638 := by
  have hm : Host.reduce FloatOps.minimumf w (constant S_ .f32 0x7F800000#32) reducesTo_S8x2048x2048_S8x2048_d2 h_S_ (ix2 b n)
      = bot fun j => w (ix3 b n j) := by
    rw [hostReduce3 _ w _ _ red]
    show (univ : Finset (Fin 2048)).fold min (Ideal.ofBits .f32 0x7F800000#32) _ = _
    rw [bits_inf]
    rfl
  have hb : ∀ j : Fin 2048, (broadcastInDim S8x2048x2048 ![0, 1, 2] bcast_S8x2048x1_S8x2048x2048_0_1_2
            (broadcastInDim S8x2048x1 ![0, 1] bcast_S8x2048_S8x2048x1_0_1
              (Host.reduce FloatOps.minimumf w (constant S_ .f32 0x7F800000#32) reducesTo_S8x2048x2048_S8x2048_d2 h_S_))) (ix3 b n j)
      = bot fun j => w (ix3 b n j) := fun j => by
    rw [broadcastInDim_apply _ bcast_S8x2048x1_S8x2048x2048_0_1_2 _ (ix3 b n j) (ix3 b n (0 : Fin 1)) (fun a => by
        match a with
        | ⟨0, _⟩ => rfl
        | ⟨1, _⟩ => rfl
        | ⟨2, _⟩ => rfl),
      broadcastInDim_apply _ bcast_S8x2048_S8x2048x1_0_1 _ (ix3 b n (0 : Fin 1)) (ix2 b n) (fun a => by
        match a with
        | ⟨0, _⟩ => rfl
        | ⟨1, _⟩ => rfl), hm]
  have hc : Host.reduce IntOp.addi
      (extui 32
        (cmpf .ogt w
          (broadcastInDim S8x2048x2048 ![0, 1, 2] bcast_S8x2048x1_S8x2048x2048_0_1_2
            (broadcastInDim S8x2048x1 ![0, 1] bcast_S8x2048_S8x2048x1_0_1
              (Host.reduce FloatOps.minimumf w (constant S_ .f32 0x7F800000#32) reducesTo_S8x2048x2048_S8x2048_d2 h_S_)))) natLt_1_32)
      (constantI S_ 32 0#32) reducesTo_S8x2048x2048_S8x2048_d2 h_S_ (ix2 b n)
      = BitVec.ofNat 32 (above (fun j => w (ix3 b n j)) (bot fun j => w (ix3 b n j))) := by
    rw [hostReduce3 _ _ _ _ red]
    rw [← Count.sum_above]
    refine congrArg (fun g => (univ : Finset (Fin 2048)).fold IntOp.addi 0#32 g) (funext fun j => ?_)
    show (Ideal.cmp .ogt (w (ix3 b n j)) _).setWidth 32 = _
    rw [hb]
  unfold fewer
  show IntOp.cmpi .slt _ (broadcastInDim S8x2048 ![] bcast_S_S8x2048 (constantI S_ 32 1638#32) (ix2 b n)) = 1#1 ↔ _
  rw [hc]
  exact Count.slt_iff ((above_le _ _).trans (by norm_num)) (by norm_num)

/-- `gap` at a line sets its 1638th weight apart from the next. -/
theorem gap_apart (w : FVec Ideal S8x2048x2048 .f32) (b : Fin 8) (n : Fin 2048) (h : gap w (ix2 b n) = 1#1) :
    Apart (fun j => w (ix3 b n j)) 1638 := by
  have hv : ∀ (p : Fin 1639) (off : Fin 3 → ℕ) (_ : off = ![0, 0, p.val]) (hs : S8x2048x1639.Slices off S8x2048x1),
      ∃ i : Fin 2048, rank (fun j => w (ix3 b n j)) i = p.val ∧
        shapeCast S8x2048 (extractStridedSlice S8x2048x1 off
          (Host.topK S8x2048x1639 2 (FloatOps.cmpfTotal (F := Ideal) (φ := .f32) .gt) w sliceFits_S8x2048x2048_S8x2048x1639).1 hs)
          shapeCasts_S8x2048x1_S8x2048 (ix2 b n) = w (ix3 b n i) := by
    rintro p off rfl hs
    obtain ⟨i, h1, h2, -⟩ := Top.topK_apply w sliceFits_S8x2048x2048_S8x2048x1639 b n p
    refine ⟨i, h1, Eq.trans ?_ h2⟩
    rw [shapeCast_apply _ _ (ix2 b n) (ix3 b n (0 : Fin 1)) (by
      rw [Shape.rowMajor_val_two, Shape.rowMajor_val_three]
      show (b.val * 2048 + n.val) * 1 + 0 = b.val * 2048 + n.val
      omega)]
    exact extractStridedSlice_apply _ _ hs (ix3 b n (0 : Fin 1)) (ix3 b n p) (fun a => by
      match a with
      | ⟨0, _⟩ => exact (Nat.zero_add _).symm
      | ⟨1, _⟩ => exact (Nat.zero_add _).symm
      | ⟨2, _⟩ => rfl)
  obtain ⟨i, hi, ei⟩ := hv ⟨1637, by norm_num⟩ ![0, 0, 1637] rfl slices_S8x2048x1639_S8x2048x1_0_0_1637
  obtain ⟨j, hj, ej⟩ := hv ⟨1638, by norm_num⟩ ![0, 0, 1638] rfl slices_S8x2048x1639_S8x2048x1_0_0_1638
  unfold gap at h
  have h' : Ideal.cmp .ogt (shapeCast S8x2048 (extractStridedSlice S8x2048x1 ![0, 0, 1637]
        (Host.topK S8x2048x1639 2 (FloatOps.cmpfTotal (F := Ideal) (φ := .f32) .gt) w sliceFits_S8x2048x2048_S8x2048x1639).1 slices_S8x2048x1639_S8x2048x1_0_0_1637)
        shapeCasts_S8x2048x1_S8x2048 (ix2 b n))
      (shapeCast S8x2048 (extractStridedSlice S8x2048x1 ![0, 0, 1638]
        (Host.topK S8x2048x1639 2 (FloatOps.cmpfTotal (F := Ideal) (φ := .f32) .gt) w sliceFits_S8x2048x2048_S8x2048x1639).1 slices_S8x2048x1639_S8x2048x1_0_0_1638)
        shapeCasts_S8x2048x1_S8x2048 (ix2 b n) * Ideal.ofBits .f32 0x3F800001#32) = 1#1 := h
  rw [ei, ej, Words.ofBits_above_one] at h'
  exact ⟨i, j, hi, hj, (Count.bit_iff _).1 h'⟩

/-- Line `y` of run `r`. -/
def line (r : Fin 2) (y : Fin 1024) : Fin 2048 := ⟨r.val * 1024 + y.val, by omega⟩

/-- Where the conjunction over a run is one, the bit of each line of the run is one. -/
theorem run_all (v : IVec S8x2048 1) (b : Fin 8) (r : Fin 2)
    (h : Host.reduce IntOp.andi (shapeCast S8x2x1024 v shapeCasts_S8x2048_S8x2x1024) (constantI S_ 1 1#1) reducesTo_S8x2x1024_S8x2_d2 h_S_ (ix2 b r) = 1#1)
    (y : Fin 1024) : v (ix2 b (line r y)) = 1#1 := by
  have := Host.reduce_andi_eq_one _ _ reducesTo_S8x2x1024_S8x2_d2 h_S_ (ix2 b r) h (ix3 b r y) (by
    rw [Shape.ReducesTo.drop_eq_drop reducesTo_S8x2x1024_S8x2_d2 redRun, ← lift_last3 redRun b r (⟨y.val, y.isLt⟩ : Fin (S8x2x1024.size 2))]
    exact redRun.drop_lift _ _)
  rw [shapeCast_apply _ _ (ix3 b r y) (ix2 b (line r y)) (by
    rw [Shape.rowMajor_val_two, Shape.rowMajor_val_three]
    show b.val * 2048 + (r.val * 1024 + y.val) = (b.val * 2 + r.val) * 1024 + y.val
    omega)] at this
  exact this

/-- Where the precondition holds, in each run of 1024 lines either every line has fewer than 1638 weights above its least, or every line's
    1638th weight is set apart from the next. -/
theorem run_cases (x : FVec Ideal S8x64x2048x12 .f32) (h : fn (F := Ideal) x = fun _ => 1#1) (b : Fin 8) (r : Fin 2) :
    (∀ y, above (weights x b (line r y)) (bot (weights x b (line r y))) < 1638) ∨ (∀ y, Apart (weights x b (line r y)) 1638) := by
  have hw : ∀ n : Fin 2048, (fun j => Cert.ReferenceIdeal.Read.val_main_v26 (F := Ideal) x (ix3 b n j)) = weights x b n :=
    fun n => funext fun j => Ref.weights_apply x b n j
  have h1 := congrFun h (ix2 b r)
  rw [fn_eq] at h1
  generalize Cert.ReferenceIdeal.Read.val_main_v26 (F := Ideal) x = w at h1 hw
  have h2 : ∀ p q : BitVec 1, p ||| q = 1#1 → p = 1#1 ∨ q = 1#1 := by decide
  rcases h2 _ _ (show _ ||| _ = 1#1 from h1) with h1 | h1
  · refine Or.inl fun y => ?_
    rw [← hw]
    exact (fewer_iff w b _).1 (run_all _ b r h1 y)
  · refine Or.inr fun y => ?_
    rw [← hw]
    exact gap_apart w b _ (run_all _ b r h1 y)

end Cert.Proof.Pre
end
-- ==== Proof.Array.lean ====
module

public import proofs.«01_k».proof.Proof.Block
public import proofs.«01_k».proof.Proof.Run
public import proofs.«01_k».proof.Proof.Pre
public import Idealize.ShloMosaic.Lib.Pipeline.ValueKit
public import Idealize.ShloMosaic.Lib.StableHlo.Run

/-! What the result array holds after the run: at each batch, node and place, the node's weight there where its rank is
    below 1638, and zero elsewhere. -/

@[expose] public section

set_option maxRecDepth 16384

noncomputable section

namespace Cert.Proof.Array

open Finset Idealize.ShloMosaic.TcCoe Idealize.ShloMosaic.ValueIdx
open Idealize.ShloMosaic hiding ix0 ix1 ix2 ix3 ix4
open Idealize.ShloMosaic.Pipeline (Dat)
open Cert.KernelIdeal Cert.KernelIdeal.Gen
open Cert.Proof.Soft Cert.Proof.Layout Cert.Proof.Pick Cert.Proof.Rows Cert.Proof.Count Cert.Proof.Branch Cert.Proof.Block Cert.Proof.Body Cert.Proof.Pre

variable (m : (ℓ : Loc nD τ sig) → Buf (Elt Ideal) ℓ)

/-- The argument. -/
abbrev arg (c : Dev nD) : FVec Ideal S8x64x2048x12 .f32 := m ((c.tc : Thread nD τ).loc main_arg0)

/-! ## What the host operations before the region leave -/

/-- The triangle of ones. -/
def tri : FVec Ideal S2048x2048 .bf16 :=
  uitofp .bf16 (cmpi .slt (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0))))

/-- Before the region the first window's array holds the argument with its axes reordered. -/
theorem V_v0 (c : Dev nD) : V m c main_v0 = transpose S8x12x64x2048 [0, 3, 1, 2] (arg m c) transposes_S8x64x2048x12_S8x12x64x2048_0_3_1_2 := by
  show StableHlo.after hostOps0 (fun b => m (c, b)) (Proc.devRef .tc main_v0) = _
  after_results

/-- Before the region the second window's array holds the triangle of ones. -/
theorem V_v8 (c : Dev nD) : V m c main_v8 = tri := by
  show StableHlo.after hostOps0 (fun b => m (c, b)) (Proc.devRef .tc main_v8) = _
  after_results
  rfl

/-- The triangle has a one just where the row comes before the column. -/
theorem tri_entry (j i : Fin 2048) : tri (ix2 j i) = if j < i then (1 : EReal) else 0 := by
  have e : tri (ix2 j i) = (((IntOp.cmpi .slt (BitVec.ofNat 32 j.val) (BitVec.ofNat 32 i.val)).toNat : ℝ) : EReal) := rfl
  have h := slt_iff (a := j.val) (b := i.val) (by omega) (by omega)
  rw [e]
  by_cases hl : j < i
  · rw [if_pos hl, h.mpr hl]; norm_num
  · rw [if_neg hl]
    have hb : ∀ b : BitVec 1, ¬ b = 1#1 → b.toNat = 0 := by decide
    rw [hb _ (fun hc => hl (h.mp hc))]; norm_num

/-! ## The windows' blocks at a point -/

/-- The batch of a point. -/
def batch (t : Fin cfg0.N) : Fin 8 := ⟨t.val / 2, by have : t.val < 16 := t.isLt; omega⟩
/-- Which run of its batch's nodes a point takes. -/
def half (t : Fin cfg0.N) : Fin 2 := ⟨t.val % 2, Nat.mod_lt _ (by norm_num)⟩

/-- The first window's block at a point is the one of the point's batch. -/
theorem index0 : ∀ t : Fin cfg0.N, win0_0.index t = ![t.val / 2, 0, 0, 0] := (by decide +kernel : ∀ t : Fin grid0.N, win0_0.index t = ![t.val / 2, 0, 0, 0])
/-- The second window's block is the whole triangle at every point. -/
theorem index1 : ∀ t : Fin cfg0.N, win0_1.index t = ![0, 0] := (by decide +kernel : ∀ t : Fin grid0.N, win0_1.index t = ![0, 0])
/-- The output window's block at a point is the one of the point's batch and run. -/
theorem index2 : ∀ t : Fin cfg0.N, win0_2.index t = ![t.val / 2, t.val % 2, 0] := (by decide +kernel : ∀ t : Fin grid0.N, win0_2.index t = ![t.val / 2, t.val % 2, 0])

/-- The first window's block at a point, entry by entry: the argument at the point's batch. -/
theorem iblk0_apply (c : Dev nD) (t : Fin cfg0.N) (p : Fin 12) (k : Fin 64) (n : Fin 2048) :
    iblk m c 0 t (ix4 (0 : Fin 1) p k n) = arg m c (ix4 (batch t) k n p) := by
  have e : (win0_0.blk t).view.emb (ix4 (0 : Fin 1) p k n) = (ix4 (batch t) p k n : S8x12x64x2048.Idx) := by
    blk_ext [index0 t, batch]
  blk_simp [iblk]
  rw [e]
  refine (congrFun (V_v0 m c) _).trans ?_
  refine transpose_apply _ _ _ _ _ fun a => ?_
  match a with
  | ⟨0, _⟩ => rfl
  | ⟨1, _⟩ => rfl
  | ⟨2, _⟩ => rfl
  | ⟨3, _⟩ => rfl

/-- The second window's block at a point, entry by entry: a one just where the row comes before the column. -/
theorem iblk1_apply (c : Dev nD) (t : Fin cfg0.N) (j i : Fin 2048) :
    iblk m c 1 t (ix2 j i) = if j < i then (1 : EReal) else 0 := by
  have e : (win0_1.blk t).view.emb (ix2 j i) = (ix2 j i : S2048x2048.Idx) := by
    blk_ext [index1 t]
  blk_simp [iblk]
  rw [e]
  exact (congrFun (V_v8 m c) _).trans (tri_entry j i)

/-! ## The two scratch buffers -/

/-- What a batch's first point writes into the first scratch buffer: the sums over the twelve times. -/
theorem pay11_apply (X : FVec Ideal S1x12x64x2048 .f32) (k : Fin 64) (n : Fin 2048) :
    k0_pay11 (F := Ideal) X (ix2 k n) = ∑ p : Fin 12, X (ix4 (0 : Fin 1) p k n) := by
  have e : k0_pay11 (F := Ideal) X = shapeCast S64x2048 (multiReduction .add [0] S64x2048 (shapeCast S12x64x2048 X shapeCasts_S1x12x64x2048_S12x64x2048)
    0x00000000#32 reduces_S12x64x2048_S64x2048 (.inl rfl) rfl) shapeCasts_S64x2048_S64x2048 := rfl
  rw [e, shapeCast_apply _ shapeCasts_S64x2048_S64x2048 (ix2 k n) (ix2 k n) rfl]
  refine (Ideal.multiReduction_add_single _ _ reduces_S12x64x2048_S64x2048 _ _ (ix2 k n)).trans ?_
  refine sum_congr rfl fun p _ => ?_
  have hl : reduces_S12x64x2048_S64x2048.lift (ix2 k n) p = ix3 (⟨p.val, p.isLt⟩ : Fin 12) k n := by
    funext a
    apply Fin.ext
    match a with
    | ⟨0, _⟩ => rfl
    | ⟨1, _⟩ => rfl
    | ⟨2, _⟩ => rfl
  rw [hl, shapeCast_1abc_abc_apply]
  rfl

/-- The first scratch buffer holds the batch's summed features. -/
theorem feats_apply (c : Dev nD) (t : Fin cfg0.N) (k : Fin 64) (n : Fin 2048) :
    feats m c t (ix2 k n) = feat (arg m c) (batch t) k n := by
  have hb : batch (first t) = batch t := Fin.ext (by
    show (t.val - t.val % 2) / 2 = t.val / 2
    omega)
  unfold feats feat
  rw [pay11_apply]
  refine sum_congr rfl fun p _ => ?_
  rw [iblk0_apply, hb]

/-- The second scratch buffer holds an eighth of it. -/
theorem pay12_apply (v : FVec Ideal S64x2048 .f32) (k : Fin 64) (n : Fin 2048) :
    k0_pay12 (F := Ideal) v (ix2 k n) = v (ix2 k n) * ((1 / 8 : ℝ) : EReal) := by
  have e : k0_pay12 (F := Ideal) v = shapeCast S64x2048 (mulf v (broadcast S64x2048 (Scalar.ofBits .f32 0x3E000000#32 : Ideal .f32))) shapeCasts_S64x2048_S64x2048 := rfl
  rw [e, shapeCast_apply _ shapeCasts_S64x2048_S64x2048 (ix2 k n) (ix2 k n) rfl]
  show v (ix2 k n) * Ideal.ofBits .f32 0x3E000000#32 = _
  rw [bits_eighth]

/-- The columns a point takes as its rows start at 1024 times its run. -/
theorem off1_eq : ∀ t : Fin cfg0.N, k0_off1 (grid0.coords t) = ![0, (t.val % 2) * 1024] :=
  (by decide +kernel : ∀ t : Fin grid0.N, k0_off1 (grid0.coords t) = ![0, (t.val % 2) * 1024])

/-- The columns a point takes as its rows. -/
theorem rowsAt_apply (t : Fin cfg0.N) (a : FVec Ideal S64x2048 .f32) (k : Fin 64) (y : Fin 1024) :
    rowsAt (F := Ideal) (grid0.coords t) a (ix2 k y) = a (ix2 k (line (half t) y)) := by
  unfold rowsAt
  rw [View.ld_unit]
  refine congrArg a ?_
  funext d
  apply Fin.ext
  match d with
  | ⟨0, _⟩ =>
    show k0_off1 (grid0.coords t) 0 + k.val = k.val
    rw [off1_eq]
    show 0 + k.val = k.val
    omega
  | ⟨1, _⟩ =>
    show k0_off1 (grid0.coords t) 1 + y.val = (t.val % 2) * 1024 + y.val
    rw [off1_eq]
    rfl

/-! ## What a point stores -/

/-- The weights a point forms are those of its batch's nodes. -/
theorem row_eq (c : Dev nD) (t : Fin cfg0.N) (y : Fin 1024) :
    row (k0_pay13 (F := Ideal) (rowsAt (grid0.coords t) (feats m c t)) (k0_pay12 (feats m c t))) y = weights (arg m c) (batch t) (line (half t) y) := by
  funext i
  unfold row weights
  rw [pay13_apply]
  refine congrArg (fun r => wts r i) (funext fun j => ?_)
  unfold logit
  rw [← scaled_dot]
  refine congrArg (max · 0) (sum_congr rfl fun k _ => ?_)
  rw [rowsAt_apply, pay12_apply, feats_apply, feats_apply]

/-- Under the precondition, what a point stores: its nodes' weights, those of the first 1638 ranks kept and the others zero. -/
theorem outAt_apply (c : Dev nD) (h : Cert.Pre_separated.fn (F := Ideal) (arg m c) = fun _ => 1#1) (t : Fin cfg0.N) (y : Fin 1024) (i : Fin 2048) :
    outAt m c t (ix3 (0 : Fin 1) y i) = kept (weights (arg m c) (batch t) (line (half t) y)) 1638 i := by
  have hc := run_cases (arg m c) h (batch t) (half t)
  rw [← row_eq]
  refine blockOut_apply (grid0.coords t) (feats m c t) (k0_pay12 (feats m c t)) (iblk m c 1 t) (iblk1_apply m c t) ?_ y i
  simp only [row_eq]
  rcases hc with hc | hc
  · exact .inl hc
  · exact .inr fun z => ⟨normal_of_apart (by norm_num) (by norm_num) (logit_nonneg _ _ _) (hc z), hc z⟩

/-! ## The result array -/

/-- The result: each node's weights, those of the first 1638 ranks kept and the others zero. -/
def result (x : FVec Ideal S8x64x2048x12 .f32) : FVec Ideal S8x2048x2048 .f32 :=
  fun q => kept (weights x (q 0) (q 1)) 1638 (q 2)

/-- Under the precondition, the output array after the last point is the result. -/
theorem final (c : Dev nD) (h : Cert.Pre_separated.fn (F := Ideal) (arg m c) = fun _ => 1#1) : (dats m 0 c).arrAt 2 cfg0.N = result (arg m c) := by
  refine (dats m 0 c).arrAt_eq_of_covers 2 _ (by decide +kernel) fun t _ q => ?_
  obtain ⟨y, i, rfl⟩ : ∃ (y : Fin 1024) (i : Fin 2048), q = (ix3 (0 : Fin 1) y i : S1x1024x2048.Idx) := ⟨q 1, q 2, by
    funext a
    match a with
    | ⟨0, _⟩ => exact Subsingleton.elim (α := Fin 1) _ _
    | ⟨1, _⟩ => rfl
    | ⟨2, _⟩ => rfl⟩
  have e : (win0_2.blk t).view.emb (ix3 (0 : Fin 1) y i) = (ix3 (batch t) (line (half t) y) i : S8x2048x2048.Idx) := by
    blk_ext [index2 t, batch, half, line]
  blk_simp
  rw [after0_2, e]
  exact outAt_apply m c h t y i

end Cert.Proof.Array

end
-- ==== Proof.Equation.lean ====
module

public import proofs.«01_k».proof.Defs
public import proofs.«01_k».proof.Proof.Frames
public import proofs.«01_k».proof.Proof.Ref
public import proofs.«01_k».proof.Proof.Array

/-! The equation: over the extended reals, and where the precondition holds, the kernel's result array is the
    reference's. -/

@[expose] public section

noncomputable section

namespace Cert.Proof

open Idealize.ShloMosaic Idealize.ShloMosaic.TcCoe

/-- The reference's result is each node's weights, those of the first 1638 ranks kept and the others zero. -/
theorem reference_result (x : FVec Ideal Cert.KernelIdeal.S8x64x2048x12 .f32) :
    Cert.ReferenceIdeal.Read.val_main_v55 (F := Ideal) x = Array.result x := by
  funext q
  have e : q = ValueIdx.ix3 (q 0) (q 1) (q 2) := ValueIdx.eq_ix3 q
  rw [e]
  exact Ref.result_apply x (q 0) (q 1) (q 2)

/-- Kernel and reference, run from the same argument where the precondition holds, end with equal results. -/
theorem equal : Cert.algebraic_KernelIdeal_ReferenceIdeal_pre_separated := by
  intro m g m' g' hp ha
  refine ⟨fun c => Array.result (m ((c.tc : Thread Cert.KernelIdeal.nD Cert.KernelIdeal.τ).loc Cert.KernelIdeal.main_arg0)), ?_, ?_⟩
  · refine (θ_run Cert.KernelIdeal.defs _ _).mono (fun r h c => ⟨?_, h.1.1 c⟩) (Body.run_main (F := Ideal) m g)
    exact (h.2 c).trans (Array.final m c (hp c))
  · refine (θ_run Cert.ReferenceIdeal.defs _ _).mono (fun r h c => ⟨?_, (h c).2⟩) (Cert.ReferenceIdeal.Value.run (F := Ideal) m' g')
    refine (h c).1.trans ?_
    rw [Cert.ReferenceIdeal.Read.val_main_v55_eq]
    refine (reference_result _).trans ?_
    exact congrArg Array.result (ha c)

end Cert.Proof

end
-- ==== Proof.lean ====
module

public import proofs.«01_k».proof.Defs
public import proofs.«01_k».proof.Proof.Frames
public import proofs.«01_k».proof.Proof.Equation

@[expose] public section

noncomputable section

namespace Cert.Proof

/-- The claims of the certificate, together. -/
theorem claim : Cert.Claim := ⟨Cert.Kernel.Gen.facts, Cert.KernelIdeal.Gen.facts, Cert.ReferenceIdeal.Gen.facts, Cert.Pre_separated.Gen.facts,
  frame_kernel, frame_kernelIdeal, frame_kernelIdeal_pre, frame_reference, frame_reference_pre, trivial, equal⟩

end Cert.Proof

end
